-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![1, 2048, 32, 128]⟩ ⟨4, ![1, 2048, 64, 128]⟩ (Layout.meshBlock [2, 2] ![[], [], [0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![4096, 8192]⟩ ⟨2, ![8192, 8192]⟩ (Layout.meshBlock [2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨3, ![1, 1024, 8192]⟩ ⟨3, ![1, 2048, 8192]⟩ (Layout.meshBlock [2, 2] ![[], [0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x32x128 : Shape := ⟨4, ![1, 2048, 32, 128]⟩
abbrev S4096x8192 : Shape := ⟨2, ![4096, 8192]⟩
abbrev S2048x4096 : Shape := ⟨2, ![2048, 4096]⟩
abbrev S1x1024x8192 : Shape := ⟨3, ![1, 1024, 8192]⟩
abbrev S2x4096x512 : Shape := ⟨3, ![2, 4096, 512]⟩
abbrev S1024x512 : Shape := ⟨2, ![1024, 512]⟩
abbrev S2x1024x512 : Shape := ⟨3, ![2, 1024, 512]⟩
abbrev S2 : Shape := ⟨1, ![2]⟩
abbrev S_ : Shape := ⟨0, ![]⟩
abbrev S1 : Shape := ⟨1, ![1]⟩
abbrev S1x4096x512 : Shape := ⟨3, ![1, 4096, 512]⟩
abbrev S4096x512 : Shape := ⟨2, ![4096, 512]⟩
abbrev S1024x4096 : Shape := ⟨2, ![1024, 4096]⟩
abbrev S1x1024x512 : Shape := ⟨3, ![1, 1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S1x2048x32x128, .bf16⟩
  | .hbm, ⟨1, _⟩ => ⟨S4096x8192, .f32⟩
  | .hbm, ⟨2, _⟩ => ⟨S2048x4096, .bf16⟩
  | .hbm, ⟨3, _⟩ => ⟨S1x1024x8192, .f32⟩
  | .local _ .vmem, ⟨0, _⟩ => ⟨S2048x4096, .bf16⟩
  | .local _ .vmem, ⟨1, _⟩ => ⟨S2x4096x512, .f32⟩
  | .local _ .vmem, ⟨2, _⟩ => ⟨S1024x512, .bf16⟩
  | .local _ .vmem, ⟨3, _⟩ => ⟨S1024x512, .bf16⟩
  | .local _ .vmem, ⟨4, _⟩ => ⟨S2x1024x512, .bf16⟩
  | .local _ .vmem, ⟨5, _⟩ => ⟨S2x1024x512, .bf16⟩
  | .local _ .vmem, ⟨6, _⟩ => ⟨S1024x512, .f32⟩
  | .local _ .vmem, ⟨7, _⟩ => ⟨S1024x512, .f32⟩
  | _, _ => ⟨S1x2048x32x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 3 → Bool
  | ⟨0, _⟩ => true
  | ⟨1, _⟩ => true
  | ⟨2, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 3 10 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_sem0_0 : DmaSem sig := 0
abbrev barrier0 : Sem sig := 2

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) (c0_i32_16 : BitVec 32) : Fin 2 → Nat :=
  let c0_i32_21 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8_i32 : BitVec 32 := 8#32
  let v20 : BitVec 32 := Scalar.muli v5 c8_i32
  let v23 : BitVec 32 := Scalar.addi v20 c0_i32_16
  let c512_i32 : BitVec 32 := 512#32
  let v24 : BitVec 32 := Scalar.muli v23 c512_i32
  ![0, v24.toNat]
@[reducible] def k0_t1_loop : Scf.Loop 32 :=
  let c0_i32_29 : BitVec 32 := 0#32
  let c4_i32 : BitVec 32 := 4#32
  let v37 : BitVec 32 := Scalar.addi c0_i32_29 c4_i32
  let c1_i32_30 : BitVec 32 := 1#32
  ⟨c0_i32_29, v37, c1_i32_30⟩
def k0_off2 (d0 : Dev nD) (k0_t1 : Fin k0_t1_loop.trips) (c0_i32_72 : BitVec 32) : Fin 2 → Nat :=
  let c0_i32_80 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8_i32 : BitVec 32 := 8#32
  let v20 : BitVec 32 := Scalar.muli v5 c8_i32
  let c2_i32_71 : BitVec 32 := 2#32
  let c0_i32_29 : BitVec 32 := 0#32
  let c1_i32_30 : BitVec 32 := 1#32
  let arg18 : BitVec 32 := Scf.iv c0_i32_29 c1_i32_30 k0_t1
  let v73 : BitVec 32 := Scalar.muli c2_i32_71 arg18
  let v74 : BitVec 32 := Scalar.addi v73 c0_i32_72
  let v77 : BitVec 32 := Scalar.addi v20 v74
  let c512_i32_75 : BitVec 32 := 512#32
  let v78 : BitVec 32 := Scalar.muli v77 c512_i32_75
  ![0, v78.toNat]
def k0_off3 (d0 : Dev nD) : Fin 2 → Nat :=
  let c1_i32_12 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v18 : BitVec 32 := Scalar.subi c1_i32_12 v2
  let c1024_i32_13 : BitVec 32 := 1024#32
  let v19 : BitVec 32 := Scalar.muli v18 c1024_i32_13
  let v87 : Index := Scalar.indexCast v19
  let c0_84 : Index := 0#32
  ![v87.toNat, 0]
def k0_dev3 (d0 : Dev nD) : Nat :=
  let c0_i32_89 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_88 : BitVec 32 := 2#32
  let v97 : BitVec 32 := Scalar.muli v6 c2_i32_88
  let v98 : BitVec 32 := Scalar.addi c0_i32_89 v97
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_90 : BitVec 32 := 1#32
  let v99 : BitVec 32 := Scalar.muli v5 c1_i32_90
  let v100 : BitVec 32 := Scalar.addi v98 v99
  v100.toNat
def k0_off4 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v17 : BitVec 32 := Scalar.muli v2 c1024_i32
  let v101 : Index := Scalar.indexCast v17
  let c0_91 : Index := 0#32
  ![v101.toNat, 0]
def k0_cond2 (k0_t1 : Fin k0_t1_loop.trips) : BitVec 1 :=
  let c0_i32_29 : BitVec 32 := 0#32
  let c1_i32_30 : BitVec 32 := 1#32
  let arg18 : BitVec 32 := Scf.iv c0_i32_29 c1_i32_30 k0_t1
  let c0_i32_73 : BitVec 32 := 0#32
  let v75 : BitVec 1 := Scalar.cmpi .sgt arg18 c0_i32_73
  let v105 : BitVec 32 := Scalar.extui v75
  let c0_i32_93 : BitVec 32 := 0#32
  let v106 : BitVec 1 := Scalar.cmpi .ne v105 c0_i32_93
  v106

def k0_dev4 (d0 : Dev nD) : Nat :=
  let c0_i32_224 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_223 : BitVec 32 := 2#32
  let v259 : BitVec 32 := Scalar.muli v2 c2_i32_223
  let v260 : BitVec 32 := Scalar.addi c0_i32_224 v259
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_225 : BitVec 32 := 1#32
  let v261 : BitVec 32 := Scalar.muli v7 c1_i32_225
  let v262 : BitVec 32 := Scalar.addi v260 v261
  v262.toNat
def k0_off5 (d0 : Dev nD) (k0_t1 : Fin k0_t1_loop.trips) : Fin 3 → Nat :=
  let c0_i32_228 : BitVec 32 := 0#32
  let c0_i32_229 : BitVec 32 := 0#32
  let c1_i32_14 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v21 : BitVec 32 := Scalar.subi c1_i32_14 v5
  let c8_i32_15 : BitVec 32 := 8#32
  let v22 : BitVec 32 := Scalar.muli v21 c8_i32_15
  let c2_i32_71 : BitVec 32 := 2#32
  let c0_i32_29 : BitVec 32 := 0#32
  let c1_i32_30 : BitVec 32 := 1#32
  let arg18 : BitVec 32 := Scf.iv c0_i32_29 c1_i32_30 k0_t1
  let v73 : BitVec 32 := Scalar.muli c2_i32_71 arg18
  let c0_i32_72 : BitVec 32 := 0#32
  let v74 : BitVec 32 := Scalar.addi v73 c0_i32_72
  let v263 : BitVec 32 := Scalar.addi v22 v74
  let c1_i32_226 : BitVec 32 := 1#32
  let v264 : BitVec 32 := Scalar.subi v263 c1_i32_226
  let c512_i32_227 : BitVec 32 := 512#32
  let v265 : BitVec 32 := Scalar.muli v264 c512_i32_227
  ![0, 0, v265.toNat]
def k0_cond3 (k0_t1 : Fin k0_t1_loop.trips) : BitVec 1 :=
  let c0_i32_29 : BitVec 32 := 0#32
  let c1_i32_30 : BitVec 32 := 1#32
  let arg18 : BitVec 32 := Scf.iv c0_i32_29 c1_i32_30 k0_t1
  let c3_i32 : BitVec 32 := 3#32
  let v117 : BitVec 1 := Scalar.cmpi .slt arg18 c3_i32
  let v118 : BitVec 32 := Scalar.extui v117
  let c0_i32_102 : BitVec 32 := 0#32
  let v119 : BitVec 1 := Scalar.cmpi .ne v118 c0_i32_102
  v119

def k0_off6 (d0 : Dev nD) (k0_t1 : Fin k0_t1_loop.trips) : Fin 2 → Nat :=
  let c0_i32_212 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8_i32 : BitVec 32 := 8#32
  let v20 : BitVec 32 := Scalar.muli v5 c8_i32
  let c2_i32_71 : BitVec 32 := 2#32
  let c0_i32_29 : BitVec 32 := 0#32
  let c1_i32_30 : BitVec 32 := 1#32
  let arg18 : BitVec 32 := Scf.iv c0_i32_29 c1_i32_30 k0_t1
  let v73 : BitVec 32 := Scalar.muli c2_i32_71 arg18
  let c0_i32_72 : BitVec 32 := 0#32
  let v74 : BitVec 32 := Scalar.addi v73 c0_i32_72
  let v243 : BitVec 32 := Scalar.addi v20 v74
  let c2_i32_206 : BitVec 32 := 2#32
  let v244 : BitVec 32 := Scalar.addi v243 c2_i32_206
  let c512_i32_207 : BitVec 32 := 512#32
  let v245 : BitVec 32 := Scalar.muli v244 c512_i32_207
  ![0, v245.toNat]
def k0_dev5 (d0 : Dev nD) : Nat :=
  let c0_i32_105 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_104 : BitVec 32 := 2#32
  let v120 : BitVec 32 := Scalar.muli v6 c2_i32_104
  let v121 : BitVec 32 := Scalar.addi c0_i32_105 v120
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_106 : BitVec 32 := 1#32
  let v122 : BitVec 32 := Scalar.muli v5 c1_i32_106
  let v123 : BitVec 32 := Scalar.addi v121 v122
  v123.toNat
def k0_dev6 (d0 : Dev nD) : Nat :=
  let c0_i32_116 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_115 : BitVec 32 := 2#32
  let v130 : BitVec 32 := Scalar.muli v2 c2_i32_115
  let v131 : BitVec 32 := Scalar.addi c0_i32_116 v130
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_117 : BitVec 32 := 1#32
  let v132 : BitVec 32 := Scalar.muli v7 c1_i32_117
  let v133 : BitVec 32 := Scalar.addi v131 v132
  v133.toNat
def k0_off7 (d0 : Dev nD) (k0_t1 : Fin k0_t1_loop.trips) (c0_i32_72 : BitVec 32) : Fin 3 → Nat :=
  let c0_i32_123 : BitVec 32 := 0#32
  let c0_i32_124 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8_i32 : BitVec 32 := 8#32
  let v20 : BitVec 32 := Scalar.muli v5 c8_i32
  let c2_i32_71 : BitVec 32 := 2#32
  let c0_i32_29 : BitVec 32 := 0#32
  let c1_i32_30 : BitVec 32 := 1#32
  let arg18 : BitVec 32 := Scf.iv c0_i32_29 c1_i32_30 k0_t1
  let v73 : BitVec 32 := Scalar.muli c2_i32_71 arg18
  let v74 : BitVec 32 := Scalar.addi v73 c0_i32_72
  let v142 : BitVec 32 := Scalar.addi v20 v74
  let c512_i32_122 : BitVec 32 := 512#32
  let v143 : BitVec 32 := Scalar.muli v142 c512_i32_122
  ![0, 0, v143.toNat]
def k0_dev7 (d0 : Dev nD) : Nat :=
  let c0_i32_146 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_145 : BitVec 32 := 2#32
  let v169 : BitVec 32 := Scalar.muli v6 c2_i32_145
  let v170 : BitVec 32 := Scalar.addi c0_i32_146 v169
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_147 : BitVec 32 := 1#32
  let v171 : BitVec 32 := Scalar.muli v5 c1_i32_147
  let v172 : BitVec 32 := Scalar.addi v170 v171
  v172.toNat
def k0_cond5 (k0_t1 : Fin k0_t1_loop.trips) : BitVec 1 :=
  let c0_i32_29 : BitVec 32 := 0#32
  let c1_i32_30 : BitVec 32 := 1#32
  let arg18 : BitVec 32 := Scf.iv c0_i32_29 c1_i32_30 k0_t1
  let c3_i32_166 : BitVec 32 := 3#32
  let v193 : BitVec 1 := Scalar.cmpi .slt arg18 c3_i32_166
  let v194 : BitVec 32 := Scalar.extui v193
  let c0_i32_167 : BitVec 32 := 0#32
  let v195 : BitVec 1 := Scalar.cmpi .ne v194 c0_i32_167
  v195

def k0_dev8 (d0 : Dev nD) : Nat :=
  let c0_i32_208 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_207 : BitVec 32 := 2#32
  let v243 : BitVec 32 := Scalar.muli v2 c2_i32_207
  let v244 : BitVec 32 := Scalar.addi c0_i32_208 v243
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_209 : BitVec 32 := 1#32
  let v245 : BitVec 32 := Scalar.muli v7 c1_i32_209
  let v246 : BitVec 32 := Scalar.addi v244 v245
  v246.toNat
def k0_off8 (d0 : Dev nD) (k0_t1 : Fin k0_t1_loop.trips) : Fin 3 → Nat :=
  let c0_i32_170 : BitVec 32 := 0#32
  let c0_i32_171 : BitVec 32 := 0#32
  let c1_i32_14 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v21 : BitVec 32 := Scalar.subi c1_i32_14 v5
  let c8_i32_15 : BitVec 32 := 8#32
  let v22 : BitVec 32 := Scalar.muli v21 c8_i32_15
  let c2_i32_127 : BitVec 32 := 2#32
  let c0_i32_29 : BitVec 32 := 0#32
  let c1_i32_30 : BitVec 32 := 1#32
  let arg18 : BitVec 32 := Scf.iv c0_i32_29 c1_i32_30 k0_t1
  let v148 : BitVec 32 := Scalar.muli c2_i32_127 arg18
  let c1_i32_128 : BitVec 32 := 1#32
  let v149 : BitVec 32 := Scalar.addi v148 c1_i32_128
  let v196 : BitVec 32 := Scalar.addi v22 v149
  let c1_i32_168 : BitVec 32 := 1#32
  let v197 : BitVec 32 := Scalar.subi v196 c1_i32_168
  let c512_i32_169 : BitVec 32 := 512#32
  let v198 : BitVec 32 := Scalar.muli v197 c512_i32_169
  ![0, 0, v198.toNat]
def k0_cond6 (k0_t1 : Fin k0_t1_loop.trips) : BitVec 1 :=
  let c0_i32_29 : BitVec 32 := 0#32
  let c1_i32_30 : BitVec 32 := 1#32
  let arg18 : BitVec 32 := Scf.iv c0_i32_29 c1_i32_30 k0_t1
  let c3_i32_182 : BitVec 32 := 3#32
  let v213 : BitVec 1 := Scalar.cmpi .slt arg18 c3_i32_182
  let v214 : BitVec 32 := Scalar.extui v213
  let c0_i32_183 : BitVec 32 := 0#32
  let v215 : BitVec 1 := Scalar.cmpi .ne v214 c0_i32_183
  v215

def k0_off9 (d0 : Dev nD) (k0_t1 : Fin k0_t1_loop.trips) : Fin 2 → Nat :=
  let c0_i32_212 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8_i32 : BitVec 32 := 8#32
  let v20 : BitVec 32 := Scalar.muli v5 c8_i32
  let c2_i32_127 : BitVec 32 := 2#32
  let c0_i32_29 : BitVec 32 := 0#32
  let c1_i32_30 : BitVec 32 := 1#32
  let arg18 : BitVec 32 := Scf.iv c0_i32_29 c1_i32_30 k0_t1
  let v148 : BitVec 32 := Scalar.muli c2_i32_127 arg18
  let c1_i32_128 : BitVec 32 := 1#32
  let v149 : BitVec 32 := Scalar.addi v148 c1_i32_128
  let v243 : BitVec 32 := Scalar.addi v20 v149
  let c2_i32_206 : BitVec 32 := 2#32
  let v244 : BitVec 32 := Scalar.addi v243 c2_i32_206
  let c512_i32_207 : BitVec 32 := 512#32
  let v245 : BitVec 32 := Scalar.muli v244 c512_i32_207
  ![0, v245.toNat]
def k0_cond7 (k0_t1 : Fin k0_t1_loop.trips) : BitVec 1 :=
  let c0_i32_29 : BitVec 32 := 0#32
  let c1_i32_30 : BitVec 32 := 1#32
  let arg18 : BitVec 32 := Scf.iv c0_i32_29 c1_i32_30 k0_t1
  let c3_i32_184 : BitVec 32 := 3#32
  let v216 : BitVec 1 := Scalar.cmpi .slt arg18 c3_i32_184
  let v217 : BitVec 32 := Scalar.extui v216
  let c0_i32_185 : BitVec 32 := 0#32
  let v218 : BitVec 1 := Scalar.cmpi .ne v217 c0_i32_185
  v218

def k0_dev9 (d0 : Dev nD) : Nat :=
  let c0_i32_208 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_207 : BitVec 32 := 2#32
  let v243 : BitVec 32 := Scalar.muli v6 c2_i32_207
  let v244 : BitVec 32 := Scalar.addi c0_i32_208 v243
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_209 : BitVec 32 := 1#32
  let v245 : BitVec 32 := Scalar.muli v5 c1_i32_209
  let v246 : BitVec 32 := Scalar.addi v244 v245
  v246.toNat
def k0_dev10 (d0 : Dev nD) : Nat :=
  let c0_i32_195 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_194 : BitVec 32 := 2#32
  let v225 : BitVec 32 := Scalar.muli v2 c2_i32_194
  let v226 : BitVec 32 := Scalar.addi c0_i32_195 v225
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_196 : BitVec 32 := 1#32
  let v227 : BitVec 32 := Scalar.muli v7 c1_i32_196
  let v228 : BitVec 32 := Scalar.addi v226 v227
  v228.toNat
def k0_off10 (d0 : Dev nD) : Fin 3 → Nat :=
  let c0_i32_49 : BitVec 32 := 0#32
  let c0_i32_50 : BitVec 32 := 0#32
  let c1_i32_14 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v21 : BitVec 32 := Scalar.subi c1_i32_14 v5
  let c8_i32_15 : BitVec 32 := 8#32
  let v22 : BitVec 32 := Scalar.muli v21 c8_i32_15
  let c8_i32_46 : BitVec 32 := 8#32
  let v54 : BitVec 32 := Scalar.addi v22 c8_i32_46
  let c1_i32_47 : BitVec 32 := 1#32
  let v55 : BitVec 32 := Scalar.subi v54 c1_i32_47
  let c512_i32_48 : BitVec 32 := 512#32
  let v56 : BitVec 32 := Scalar.muli v55 c512_i32_48
  ![0, 0, v56.toNat]
abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1x2048x64x128 : Shape := ⟨4, ![1, 2048, 64, 128]⟩
abbrev S8192x8192 : Shape := ⟨2, ![8192, 8192]⟩
abbrev S1x2048x8192 : Shape := ⟨3, ![1, 2048, 8192]⟩

abbrev nBuf : Space → Nat
  | .hbm => 5
  | .vmem => 0
  | .smem => 0
  | _ => 0

abbrev bufTy : (tb : Table) → Fin (tcTables nBuf tb) → BufTy
  | .hbm, ⟨0, _⟩ => ⟨S1x2048x64x128, .bf16⟩
  | .hbm, ⟨1, _⟩ => ⟨S8192x8192, .f32⟩
  | .hbm, ⟨2, _⟩ => ⟨S1x2048x8192, .bf16⟩
  | .hbm, ⟨3, _⟩ => ⟨S1x2048x8192, .f32⟩
  | .hbm, ⟨4, _⟩ => ⟨S1x2048x8192, .f32⟩
  | _, _ => ⟨S1x2048x64x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Protocol.lean ====
/-
  The protocol of the kernel, stated once for a device c of the 2x2 mesh.

  Each device splits its 4096x8192 block of Wo into column chunks of 512; it works on the eight chunks of its own
  half of the columns. For chunk i it multiplies the rows its x neighbour keeps and sends the bf16 product to that
  neighbour (one landing buffer, guarded by a credit), multiplies its own rows and adds what it received, writes the
  sum out, and sends a bf16 copy of the sum to its y neighbour (two landing slots, guarded by credits), which writes
  it out as a chunk of the other half of the columns.

  This file holds: the resource algebra; the neighbours; the memrefs and semaphores; the values that travel; the
  schedule (what each semaphore unit hands over); what a device owes and in which order it pays.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Loops
public import Idealize.ShloMosaic.Lib.Pipeline.Launch
public import Idealize.ShloMosaic.Lib.Pipeline.Kit
public import Idealize.ShloMosaic.Lib.Pipeline.Regions
public import Idealize.ShloMosaic.Lib.Pipeline.RegionTalk
public import Idealize.ShloMosaic.Lib.Rounds
public import Idealize.ShloMosaic.Lib.Release
public import Idealize.ShloMosaic.Lib.Transfers
public import Idealize.ShloMosaic.Lib.StableHlo
public import Idealize.ShloMosaic.Lib.Tactic

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

/-! ## The resource algebra -/

/-- The kernel's own rounds, duties named by numbers. -/
abbrev UB : Type := URounds (GSem nD τ sig) ℕ
/-- The landing slots of the y exchange, by device and slot. -/
abbrev US : Type := USlots (Dev nD × Fin 2)
/-- The pipeline's copy, the kernel's rounds, the landing slots, the counters of local copies. -/
abbrev UU : Type := UR sig nD τ × (UB × (US × Counters))

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × (US × Counters))).trans embR
abbrev ET : Emb (US × Counters) (MT nD τ sig ℕ (Elt F) ℕ UU ℕ) := (Emb.inr : Emb (US × Counters) (UB × (US × Counters))).trans embR
abbrev ES : Emb US (MT nD τ sig ℕ (Elt F) ℕ UU ℕ) := (Emb.inl : Emb US (US × Counters)).trans ET
abbrev EC : UEmb Counters (MT nD τ sig ℕ (Elt F) ℕ UU ℕ) := countersEmb (U := UU)

/-! ## The neighbours -/

set_option backward.proofsInPublic true in
/-- The neighbour along x: it holds the other half of the contraction. -/
def xp (c : Dev nD) : Dev nD := ⟨((c.val % 2) + 2) - 2 * (c.val / 2), by have h : c.val < 4 := c.isLt; show _ < 4; omega⟩
set_option backward.proofsInPublic true in
/-- The neighbour along y: it works on the other half of the columns. -/
def yp (c : Dev nD) : Dev nD := ⟨(2 * (c.val / 2) + 1) - (c.val % 2), by have h : c.val < 4 := c.isLt; show _ < 4; omega⟩

theorem xp_xp (c : Dev nD) : xp (xp c) = c := by revert c; decide
theorem yp_yp (c : Dev nD) : yp (yp c) = c := by revert c; decide

/-- The neighbours as permutations of the devices. -/
def xperm : Dev nD ≃ Dev nD := ⟨xp, xp, xp_xp, xp_xp⟩
def yperm : Dev nD ≃ Dev nD := ⟨yp, yp, yp_yp, yp_yp⟩

/-! ## Memrefs -/

abbrev a0M : Memref sig .tc .vmem S2048x4096 .bf16 := Memref.whole cc0_stg0_0
abbrev a1M : Memref sig .tc .hbm S4096x8192 .f32 := Memref.whole main_arg1
abbrev a2M : Memref sig .tc .hbm S1x1024x8192 .f32 := Memref.whole main_v2
abbrev woM : Memref sig .tc .vmem S2x4096x512 .f32 := Memref.whole cc0_scratch0
abbrev xsM : Memref sig .tc .vmem S1024x512 .bf16 := Memref.whole cc0_scratch1
abbrev xrM : Memref sig .tc .vmem S1024x512 .bf16 := Memref.whole cc0_scratch2
abbrev ysM : Memref sig .tc .vmem S2x1024x512 .bf16 := Memref.whole cc0_scratch3
abbrev yrM : Memref sig .tc .vmem S2x1024x512 .bf16 := Memref.whole cc0_scratch4
abbrev smM : Memref sig .tc .vmem S1024x512 .f32 := Memref.whole cc0_scratch5
abbrev yoM : Memref sig .tc .vmem S1024x512 .f32 := Memref.whole cc0_scratch6

theorem inbWo (k : Fin 2) : ∀ i : Fin S2x4096x512.rank, (![k.val, 0, 0] : Fin 3 → ℕ) i + S1x4096x512.size i ≤ S2x4096x512.size i := by
  revert k; decide
theorem inbY (k : Fin 2) : ∀ i : Fin S2x1024x512.rank, (![k.val, 0, 0] : Fin 3 → ℕ) i + S1x1024x512.size i ≤ S2x1024x512.size i := by
  revert k; decide
theorem inbS (k : Fin 2) : ∀ i : Fin S2.rank, (![k.val] : Fin 1 → ℕ) i + S1.size i ≤ S2.size i := by
  revert k; decide

/-- Slot k of the Wo buffer, of the y send buffer and of the y landing buffer. -/
abbrev woB (k : Fin 2) : Memref sig .tc .vmem S4096x512 .f32 :=
  (woM.slice (Rect.unit (s := S2x4096x512) ![k.val, 0, 0] S1x4096x512.size (inbWo k)) (fun _ => rfl)).squeeze S4096x512 squeezes_S1x4096x512_S4096x512
abbrev ysB (k : Fin 2) : Memref sig .tc .vmem S1024x512 .bf16 :=
  (ysM.slice (Rect.unit (s := S2x1024x512) ![k.val, 0, 0] S1x1024x512.size (inbY k)) (fun _ => rfl)).squeeze S1024x512 squeezes_S1x1024x512_S1024x512
abbrev yrB (k : Fin 2) : Memref sig .tc .vmem S1024x512 .bf16 :=
  (yrM.slice (Rect.unit (s := S2x1024x512) ![k.val, 0, 0] S1x1024x512.size (inbY k)) (fun _ => rfl)).squeeze S1024x512 squeezes_S1x1024x512_S1024x512

theorem inbA1 (y i : ℕ) : ∀ a : Fin S4096x8192.rank, (![0, 4096 * (y % 2) + 512 * (i % 8)] : Fin 2 → ℕ) a + S4096x512.size a ≤ S4096x8192.size a := by
  intro a
  have h1 := Nat.mod_lt y (show 0 < 2 by decide)
  have h2 := Nat.mod_lt i (show 0 < 8 by decide)
  fin_cases a
  · exact Nat.le_of_eq rfl
  · show 4096 * (y % 2) + 512 * (i % 8) + 512 ≤ 8192; omega
theorem inbA2 (n : ℕ) : ∀ a : Fin S1x1024x8192.rank, (![0, 0, 512 * (n % 16)] : Fin 3 → ℕ) a + S1x1024x512.size a ≤ S1x1024x8192.size a := by
  intro a
  have h2 := Nat.mod_lt n (show 0 < 16 by decide)
  fin_cases a
  · exact Nat.le_of_eq rfl
  · exact Nat.le_of_eq rfl
  · show 512 * (n % 16) + 512 ≤ 8192; omega

/-- Chunk i of device c's half of the columns of Wo. -/
abbrev woSl (c : Dev nD) (i : ℕ) : Memref sig .tc .hbm S4096x512 .f32 :=
  a1M.slice (Rect.unit (s := S4096x8192) ![0, 4096 * (c.val % 2) + 512 * (i % 8)] S4096x512.size (inbA1 c.val i)) (fun _ => rfl)
/-- Chunk n of the columns of the result. -/
abbrev outSl (n : ℕ) : Memref sig .tc .hbm S1024x512 .f32 :=
  (a2M.slice (Rect.unit (s := S1x1024x8192) ![0, 0, 512 * (n % 16)] S1x1024x512.size (inbA2 n)) (fun _ => rfl)).squeeze S1024x512 squeezes_S1x1024x512_S1024x512

/-! ## Semaphores -/

abbrev woS (k : Fin 2) : DmaSem sig := ((cc0_scratch7.slice (Rect.unit (s := S2) ![k.val] S1.size (inbS k))).squeeze S_ squeezes_S1_S_).sem
abbrev xsS : DmaSem sig := cc0_scratch8.sem
abbrev xrS : DmaSem sig := cc0_scratch9.sem
abbrev ysS (k : Fin 2) : DmaSem sig := ((cc0_scratch10.slice (Rect.unit (s := S2) ![k.val] S1.size (inbS k))).squeeze S_ squeezes_S1_S_).sem
abbrev yrS (k : Fin 2) : DmaSem sig := ((cc0_scratch11.slice (Rect.unit (s := S2) ![k.val] S1.size (inbS k))).squeeze S_ squeezes_S1_S_).sem
abbrev outS : DmaSem sig := cc0_scratch12.sem
abbrev xcS : Sem sig := cc0_scratch13.sem
abbrev ycS : Sem sig := cc0_scratch14.sem
abbrev barS : Sem sig := barrier0

/-- The parts the semaphores of the protocol play. -/
inductive Part | bar | xs | xr | xc | yc | ys (k : Fin 2) | yr (k : Fin 2) | other
deriving DecidableEq

set_option backward.proofsInPublic true in
def partOf : SemLoc sig → Part
  | .reg s => if s = xcS then .xc else if s = ycS then .yc else if s = barS then .bar else .other
  | .dma s => if s = xsS then .xs else if s = xrS then .xr else if s = ysS 0 then .ys 0 else if s = ysS 1 then .ys 1
      else if s = yrS 0 then .yr 0 else if s = yrS 1 then .yr 1 else .other

theorem partOf_bar : partOf (.reg barS) = .bar := by decide
theorem partOf_xc : partOf (.reg xcS) = .xc := by decide
theorem partOf_yc : partOf (.reg ycS) = .yc := by decide
theorem partOf_xs : partOf (.dma xsS) = .xs := by decide
theorem partOf_xr : partOf (.dma xrS) = .xr := by decide
theorem partOf_ys (k : Fin 2) : partOf (.dma (ysS k)) = .ys k := by revert k; decide
theorem partOf_yr (k : Fin 2) : partOf (.dma (yrS k)) = .yr k := by revert k; decide

abbrev barC (c : Dev nD) : GSem nD τ sig := ((c : Thread nD τ), .reg barS)
abbrev xcC (c : Dev nD) : GSem nD τ sig := ((c : Thread nD τ), .reg xcS)
abbrev ycC (c : Dev nD) : GSem nD τ sig := ((c : Thread nD τ), .reg ycS)
abbrev xsC (c : Dev nD) : GSem nD τ sig := ((c : Thread nD τ), .dma xsS)
abbrev xrC (c : Dev nD) : GSem nD τ sig := ((c : Thread nD τ), .dma xrS)
abbrev ysC (c : Dev nD) (k : Fin 2) : GSem nD τ sig := ((c : Thread nD τ), .dma (ysS k))
abbrev yrC (c : Dev nD) (k : Fin 2) : GSem nD τ sig := ((c : Thread nD τ), .dma (yrS k))

/-- The units of one transfer of a chunk of bf16 values. -/
abbrev NB : ℕ := (xrM : Memref sig .tc .vmem S1024x512 .bf16).view.dmaCredit
theorem NB_pos : 0 < NB := View.dmaCredit_pos _ (by decide)

/-! ## The values -/

/-- Buffer v of device c, elements of the memref, holding contents that read as x. -/
def holds {sp : Space} {s : Shape} {e : EltTy} (v : Memref sig .tc sp s e) (c : Dev nD) (x : Vec F s e) : sProp 𝕄 :=
  iprop(∃ f, (v.view.loc (c : Thread nD τ) ↦[v.view.set]{fullShare} f) ∗ ⌜v.view.read (Elt F) f = x⌝)
/-- The same at contents not chosen. -/
def anyv {sp : Space} {s : Shape} {e : EltTy} (v : Memref sig .tc sp s e) (c : Dev nD) : sProp 𝕄 :=
  iprop(∃ f : Buf (Elt F) (v.view.loc (c : Thread nD τ)), (v.view.loc (c : Thread nD τ) ↦[v.view.set]{fullShare} f))

omit [FloatOps F] in
theorem holds_anyv {sp : Space} {s : Shape} {e : EltTy} (v : Memref sig .tc sp s e) (c : Dev nD) (x : Vec F s e) : holds v c x ⊢ anyv v c := by
  unfold holds anyv; iintro ⟨%f, H, -⟩; iexists f; iexact H

omit [FloatOps F] in
instance holds_storable {sp : Space} {s : Shape} {e : EltTy} (v : Memref sig .tc sp s e) (c : Dev nD) (x : Vec F s e) :
    BI.Storable (upEmb : UEmb _ 𝕄) (holds v c x) := by unfold holds; infer_instance
omit [FloatOps F] in
instance anyv_storable {sp : Space} {s : Shape} {e : EltTy} (v : Memref sig .tc sp s e) (c : Dev nD) :
    BI.Storable (upEmb : UEmb _ 𝕄) (anyv (F := F) v c) := by unfold anyv; infer_instance

section Values

/-! What every device's two operands hold: o the activations (2048 rows, its 4096 of the contraction), w its rows of Wo. -/

variable (o : Dev nD → Vec F S2048x4096 .bf16) (w : Dev nD → Vec F S4096x8192 .f32)

theorem shapeCasts_wo : S4096x512.ShapeCasts S1x4096x512 := by decide
theorem shapeCasts_wo' : S1x4096x512.ShapeCasts S4096x512 := by decide
theorem shapeCasts_y : S1024x512.ShapeCasts S1x1024x512 := by decide
theorem shapeCasts_y' : S1x1024x512.ShapeCasts S1024x512 := by decide

/-- Chunk i of device c's columns of Wo, -/
def woV (c : Dev nD) (i : ℕ) : Vec F S4096x512 .f32 := (woSl c i).view.read (Elt F) (w c)
/-- as the kernel loads it. -/
def wo3 (c : Dev nD) (i : ℕ) : Vec F S1x4096x512 .f32 := shapeCast S1x4096x512 (woV w c i) shapeCasts_wo
/-- The rows of the activations that the x neighbour keeps, and the rows the device keeps. -/
def othR (c : Dev nD) : Vec F S1024x4096 .bf16 :=
  a0M.view.readAt (Elt F) (Rect.unit (s := S2048x4096) (k0_off3 c) S1024x4096.size (k0_off3_inb c)).toLoadRect (o c)
def ownR (c : Dev nD) : Vec F S1024x4096 .bf16 :=
  a0M.view.readAt (Elt F) (Rect.unit (s := S2048x4096) (k0_off4 c) S1024x4096.size (k0_off4_inb c)).toLoadRect (o c)
/-- What device c sends along x for chunk i, -/
def xval (c : Dev nD) (i : ℕ) : Vec F S1024x512 .bf16 := k0_pay2 (wo3 w c i) (othR o c)
/-- what it keeps, -/
def ownv (c : Dev nD) (i : ℕ) : Vec F S1024x512 .f32 := k0_pay3 (wo3 w c i) (ownR o c)
/-- the sum it writes out, -/
def sumv (c : Dev nD) (i : ℕ) : Vec F S1024x512 .f32 := k0_pay6 (ownv o w c i) (xval o w (xp c) i)
/-- what it sends along y, in the shape it is stored in, -/
def yval3 (c : Dev nD) (i : ℕ) : Vec F S1x1024x512 .bf16 := k0_pay7 (ownv o w c i) (xval o w (xp c) i)
/-- in the shape it is sent in, -/
def yval (c : Dev nD) (i : ℕ) : Vec F S1024x512 .bf16 := shapeCast S1024x512 (yval3 o w c i) shapeCasts_y'
/-- and what it writes out of the chunk it receives along y. -/
def yout (c : Dev nD) (i : ℕ) : Vec F S1024x512 .f32 := k0_pay4 (yval3 o w (yp c) i)

/-! ## What the units hand over -/

/-- That device c has read the first n chunks that arrived along y, as its neighbour uses it: the slots it has released and the
    rounds its landing semaphores have reached. -/
def yknow (c : Dev nD) (n : ℕ) : sProp 𝕄 :=
  iprop((released ES (c, (0 : Fin 2)) ((n + 1) / 2 + 1) ∗ released ES (c, (1 : Fin 2)) (n / 2 + 1))
    ∗ (reached ER (yrC c 0) ((n + 1) / 2) ∗ reached ER (yrC c 1) (n / 2)))

/-- To c's barrier from its x neighbour: that neighbour's landing buffer, and that its semaphores stand at their first rounds; -/
def barX (c : Dev nD) : sProp 𝕄 := iprop(anyv (F := F) xrM (xp c) ∗ reached ER (xrC (xp c)) 0 ∗ reached ER (xcC (xp c)) 0)
/-- from its y neighbour: that both its landing slots are free. -/
def barY (c : Dev nD) : sProp 𝕄 := iprop(yknow (F := F) (yp c) 0 ∗ reached ER (ycC (yp c)) 0)

/-- What duty d of round r hands to device c at each semaphore. -/
def handed (p : Part) (c : Dev nD) (r d : ℕ) : sProp 𝕄 :=
  match p with
  | .bar => if d = 0 then barX c else barY c
  | .xs => anyv (F := F) xsM c
  | .xr => iprop(holds xrM c (xval o w (xp c) r) ∗ reached ER (xcC (xp c)) r)
  | .xc => iprop(anyv (F := F) xrM (xp c) ∗ reached ER (xrC (xp c)) (r + 1))
  | .yc => yknow (F := F) (yp c) d
  | .ys k => anyv (F := F) (ysB k) c
  | .yr k => holds (yrB k) c (yval o w (yp c) (2 * r + k.val))
  | .other => iprop(emp)

/-- The duties of each round. -/
def dutiesOf (p : Part) (r : ℕ) : Finset ℕ :=
  match p with
  | .bar => if r = 0 then {0, 1} else ∅
  | .xs => if r < 8 then {0} else ∅
  | .xr => if r < 8 then {0} else ∅
  | .xc => if r < 7 then {0} else ∅
  | .yc => if r = 0 then {1, 2, 3, 4, 5, 6} else ∅
  | .ys _ => if r < 4 then {0} else ∅
  | .yr _ => if r < 4 then {0} else ∅
  | .other => ∅

def unitsOf (p : Part) : ℕ :=
  match p with
  | .bar | .xc | .yc => 1
  | _ => NB

theorem unitsOf_pos (p : Part) : 0 < unitsOf p := by
  cases p <;> first | exact Nat.one_pos | exact NB_pos

/-- The schedule. -/
def kRd : Rounds.Schedule (GSem nD τ sig) ℕ 𝕄 where
  duties g r := if g.1.2 = .tc then dutiesOf (partOf g.2) r else ∅
  amount g _ _ := unitsOf (partOf g.2)
  payload g r d := handed o w (partOf g.2) g.1.1 r d
  amount_pos g _ _ _ := unitsOf_pos _

omit [FloatOps F] in
instance yknow_storable (c : Dev nD) (n : ℕ) : BI.Storable (upEmb : UEmb _ 𝕄) (yknow (F := F) c n) := by unfold yknow; infer_instance
omit [FloatOps F] in
instance barX_storable (c : Dev nD) : BI.Storable (upEmb : UEmb _ 𝕄) (barX (F := F) c) := by unfold barX; infer_instance
omit [FloatOps F] in
instance barY_storable (c : Dev nD) : BI.Storable (upEmb : UEmb _ 𝕄) (barY (F := F) c) := by unfold barY; infer_instance
instance handed_storable (p : Part) (c : Dev nD) (r d : ℕ) : BI.Storable (upEmb : UEmb _ 𝕄) (handed o w p c r d) := by
  cases p with
  | bar => show BI.Storable upEmb (if d = 0 then barX c else barY c); split <;> infer_instance
  | _ => unfold handed; infer_instance

instance kRd_storable (g : GSem nD τ sig) (r d : ℕ) : BI.Storable (upEmb : UEmb _ 𝕄) ((kRd o w).payload g r d) :=
  handed_storable o w _ _ _ _

end Values

/-! ## What a device owes, in the order it pays -/

/-- The units device c waits for at place q of the order: 1 the barrier; then, for chunk i, at 4(i+1) what lands along x,
    4(i+1)+1 a credit along y, 4(i+1)+2 a credit along x, 4(i+1)+3 what lands along y. -/
def due (c : Dev nD) (q : ℕ) : CellTallies nD τ sig ℕ :=
  if q < 4 then (if q = 1 then tallyAt (barC c) 1 1 + tallyAt (barC c) 1 1 else 0)
  else if q % 4 = 0 then tallyAt (xrC c) q NB
  else if q % 4 = 1 then (if 9 ≤ q ∧ q < 32 then tallyAt (ycC c) q 1 else 0)
  else if q % 4 = 2 then (if q < 32 then tallyAt (xcC c) q 1 else 0)
  else tallyAt (yrC c (if q % 8 = 7 then 0 else 1)) q NB

/-- The neighbour paid at place q. -/
def payee (c : Dev nD) (q : ℕ) : Dev nD := if q % 4 = 0 ∨ q % 4 = 2 then xp c else yp c

/-- What device c pays at place q. -/
def pay (c : Dev nD) (q : ℕ) : CellTallies nD τ sig ℕ :=
  if q = 1 then tallyAt (barC (xp c)) 1 1 + tallyAt (barC (yp c)) 1 1 else due (payee c q) q

/-- What it still owes when it has paid the places below p. -/
def owed (c : Dev nD) (p : ℕ) : CellTallies nD τ sig ℕ := ∑ q ∈ Finset.Ico p 36, pay c q

def L (g : GSem nD τ sig) : Finset ℕ := if g.1.2 = .tc then Finset.range 36 else ∅
def lv (_ : GSem nD τ sig) (u : ℕ) : ℕ := u

theorem owed_succ (c : Dev nD) (p : ℕ) (h : p < 36) : owed c p = owed c (p + 1) + pay c p := by
  have e : Finset.Ico p 36 = insert p (Finset.Ico (p + 1) 36) := by
    ext x; simp only [Finset.mem_Ico, Finset.mem_insert]; omega
  unfold owed; rw [e, Finset.sum_insert (by simp), add_comm]
theorem owed_end (c : Dev nD) : owed c 36 = 0 := by unfold owed; rw [Finset.Ico_self, Finset.sum_empty]

theorem due_pos {c : Dev nD} {q : ℕ} {g : GSem nD τ sig} {i : ℕ} (h : 0 < due c q g i) : g.1 = (c : Thread nD τ) ∧ i = q := by
  have z : ¬ 0 < (0 : CellTallies nD τ sig ℕ) g i := Nat.lt_irrefl 0
  unfold due at h
  split at h
  · split at h
    · rename_i h1
      rw [Pi.add_apply, Finsupp.add_apply] at h
      rcases Nat.add_pos_iff_pos_or_pos.mp h with h | h <;>
        (obtain ⟨rfl, rfl⟩ := Pipeline.tallyAt_pos h; exact ⟨rfl, h1.symm⟩)
    · exact absurd h z
  · split at h
    · obtain ⟨rfl, rfl⟩ := Pipeline.tallyAt_pos h; exact ⟨rfl, rfl⟩
    · split at h
      · split at h
        · obtain ⟨rfl, rfl⟩ := Pipeline.tallyAt_pos h; exact ⟨rfl, rfl⟩
        · exact absurd h z
      · split at h
        · split at h
          · obtain ⟨rfl, rfl⟩ := Pipeline.tallyAt_pos h; exact ⟨rfl, rfl⟩
          · exact absurd h z
        · obtain ⟨rfl, rfl⟩ := Pipeline.tallyAt_pos h; exact ⟨rfl, rfl⟩

theorem pay_pos {c : Dev nD} {q : ℕ} {g : GSem nD τ sig} {i : ℕ} (h : 0 < pay c q g i) : g.1.2 = .tc ∧ i = q := by
  unfold pay at h
  split at h
  · rename_i h1
    rw [Pi.add_apply, Finsupp.add_apply] at h
    rcases Nat.add_pos_iff_pos_or_pos.mp h with h | h <;>
      (obtain ⟨rfl, rfl⟩ := Pipeline.tallyAt_pos h; exact ⟨rfl, h1.symm⟩)
  · obtain ⟨h1, h2⟩ := due_pos h
    exact ⟨by rw [h1], h2⟩

theorem owed_pos {c : Dev nD} {p : ℕ} {g : GSem nD τ sig} {i : ℕ} (h : 0 < owed c p g i) : g.1.2 = .tc ∧ p ≤ i ∧ i < 36 := by
  obtain ⟨q, hq, hp⟩ := Pipeline.sum_pos_exists h
  obtain ⟨h1, rfl⟩ := pay_pos hp
  exact ⟨h1, Finset.mem_Ico.mp hq⟩

omit [FloatOps F] in
/-- A wait at an index below everything still owed. -/
theorem mayWait (c : Dev nD) (sm : SemLoc sig) {u p : ℕ} (h : u < p) (hu : u < 36) :
    (levAts L lv : sProp 𝕄) ⊢ MayWait (c : Thread nD τ) sm u (owed c p) :=
  Pipeline.mayWait_of_levAts (by unfold L; rw [if_pos rfl]; exact Finset.mem_range.mpr hu) fun g i hg => by
    obtain ⟨h1, h2, h3⟩ := owed_pos hg
    refine ⟨by unfold L; rw [if_pos h1]; exact Finset.mem_range.mpr h3, ?_⟩
    show u < i
    omega

/-! ## The schedule, cell by cell -/

section Tables

variable (o : Dev nD → Vec F S2048x4096 .bf16) (w : Dev nD → Vec F S4096x8192 .f32) (c : Dev nD)

theorem duties_of {sm : SemLoc sig} {p : Part} (h : partOf sm = p) (r : ℕ) : (kRd o w).duties ((c : Thread nD τ), sm) r = dutiesOf p r := by
  subst h; dsimp only [kRd]; exact if_pos rfl
theorem amount_of {sm : SemLoc sig} {p : Part} (h : partOf sm = p) (r d : ℕ) : (kRd o w).amount ((c : Thread nD τ), sm) r d = unitsOf p := by
  subst h; rfl
theorem payload_of {sm : SemLoc sig} {p : Part} (h : partOf sm = p) (r d : ℕ) : (kRd o w).payload ((c : Thread nD τ), sm) r d = handed o w p c r d := by
  subst h; rfl
theorem expect_of {sm : SemLoc sig} {p : Part} (h : partOf sm = p) (r : ℕ) :
    (kRd o w).expect ((c : Thread nD τ), sm) r = (dutiesOf p r).card * unitsOf p := by
  unfold Schedule.expect Schedule.amountOf
  rw [duties_of o w c h, Finset.sum_congr rfl fun d _ => amount_of o w c h r d, Finset.sum_const, smul_eq_mul]

end Tables

end Cert.Proof
-- ==== Proof.Steps.lean ====
/-
  The kernel's actions one by one, each as a rule at the head of a program: a load, a store, the start and the end of a
  copy of a chunk of Wo, a copy of a chunk of the result, an addressed transfer, a wait, a signal. Each rule is stated
  for the memrefs and semaphores it is used at through an equation, so that the rules do not depend on how an access is
  spelled.
-/
module

public import proofs.«01_k».proof.Proof.Protocol

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

abbrev 𝒱₀ : Variants := Variants.none

/-- The program of a TensorCore. -/
abbrev KProg (F : FTy → Type) [FloatOps F] (α : Type) : Type 1 := Prog (TpuEff nD τ sig (Elt F) Λ₀ .tc) α

/-- The weakest precondition of a program on device c's TensorCore. -/
abbrev wpc {α : Type} (c : Dev nD) (p : KProg F α) (Q : α → sProp 𝕄) : sProp 𝕄 :=
  wp frame (wpE (defs₀ (F := F)) 𝒱₀ (c : Thread nD τ) none) Set.univ p Q

section Plain

/-- A load whose value is not used. -/
theorem load_any {α : Type} (c : Dev nD) {Q : α → sProp 𝕄} {s s' : Shape} {e : EltTy} {m : Memref sig .tc .vmem s e} {r : Rect s} {hr : ∀ a, r.stride a = 1} {hq : r.shape.Squeezes s'}
    {B : Memref sig .tc .vmem s' e} (hB : B = (m.slice r hr).squeeze s' hq)
    {hl : m.view.LoadsAt r.toLoadRect} {k : (r.toLoadRect.shape.Idx → Elt F e) → KProg F α} :
    anyv (F := F) B c ⊢ iprop((∀ v, anyv (F := F) B c -∗ wpc c (k v) Q) -∗ wpc c (Prog.op (.load m r.toLoadRect hl) k) Q) := by
  subst hB
  unfold anyv
  iintro ⟨%f, H⟩ Hk
  iapply (wp_load 𝒱₀ (c : Thread nD τ) none Set.univ (m := m) (r := r.toLoadRect)
    (S := ((m.slice r hr).squeeze s' hq).view.set) (by
      rw [Memref.set_view_squeeze]; exact Memref.setOn_subset_of_access_subset (c : Thread nD τ) (Finset.Subset.refl _))) $$ H
  iintro H
  iapply Hk
  iexists f; iexact H

/-- A load of a slot, at the value it holds. -/
theorem load_slot {α : Type} (c : Dev nD) {Q : α → sProp 𝕄} {s s' : Shape} {e : EltTy} {m : Memref sig .tc .vmem s e} {r : Rect s} {hr : ∀ a, r.stride a = 1} {hq : r.shape.Squeezes s'}
    {B : Memref sig .tc .vmem s' e} (hB : B = (m.slice r hr).squeeze s' hq) (hc : r.shape.ShapeCasts s') {x : Vec F s' e}
    {hl : m.view.LoadsAt r.toLoadRect} {k : (r.toLoadRect.shape.Idx → Elt F e) → KProg F α} :
    holds B c x ⊢ iprop((∀ v : r.toLoadRect.shape.Idx → Elt F e, (⌜shapeCast s' v hc = x⌝ ∗ holds B c x) -∗ wpc c (k v) Q)
      -∗ wpc c (Prog.op (.load m r.toLoadRect hl) k) Q) := by
  subst hB
  unfold holds
  iintro ⟨%f, H, %hx⟩ Hk
  iapply (wp_load 𝒱₀ (c : Thread nD τ) none Set.univ (m := m) (r := r.toLoadRect)
    (S := ((m.slice r hr).squeeze s' hq).view.set) (by
      rw [Memref.set_view_squeeze]; exact Memref.setOn_subset_of_access_subset (c : Thread nD τ) (Finset.Subset.refl _))) $$ H
  iintro H
  iapply Hk
  isplitr
  · ipureintro; exact hx
  iexists f
  isplitl; · iexact H
  ipureintro; exact hx

/-- A store to a slot. -/
theorem store_slot {α : Type} (c : Dev nD) {Q : α → sProp 𝕄} {s s' : Shape} {e : EltTy} {m : Memref sig .tc .vmem s e} {r : Rect s} {hr : ∀ a, r.stride a = 1} {hq : r.shape.Squeezes s'}
    {B : Memref sig .tc .vmem s' e} (hB : B = (m.slice r hr).squeeze s' hq) (hc : r.shape.ShapeCasts s') {w : r.shape.Idx → Elt F e} {x : Vec F s' e} (hw : shapeCast s' w hc = x)
    {hx : (m.access r).Stores Finset.univ} {hm : Finset.univ = Finset.univ ∨ ∀ a, r.stride a = 1} {k : PUnit → KProg F α} :
    anyv (F := F) B c ⊢ iprop((holds B c x -∗ wpc c (k ⟨⟩) Q)
      -∗ wpc c (Prog.op (.store m r w Finset.univ hx hm) k) Q) := by
  subst hB hw
  unfold holds anyv
  iintro ⟨%f, H⟩ Hk
  iapply (wp_store 𝒱₀ (c : Thread nD τ) none Set.univ (m := m) (r := r) (Mk := Finset.univ) (w := w) (f := f)
    (S := ((m.slice r hr).squeeze s' hq).view.set) (by
      rw [Memref.set_view_squeeze, View.setOn_univ])) $$ H
  iintro H
  iapply Hk
  iexists _
  isplitl; · iexact H
  ipureintro
  exact congrArg (fun v => shapeCast s' v hc) (View.read_write_univ (v := m.access r) f w)

/-- The whole of a buffer, loaded; -/
theorem load_whole {α : Type} (c : Dev nD) {Q : α → sProp 𝕄} {cs : CoreSpace} {s : Shape} {e : EltTy} {m : Memref sig .tc cs s e} {off : Fin s.rank → Nat}
    {inb : ∀ a, off a + s.size a ≤ s.size a} {x : Vec F s e}
    (hr : ∀ f, m.view.readAt (Elt F) (Rect.unit off s.size inb).toLoadRect f = m.view.read (Elt F) f)
    (hS : m.view.setOn (Rect.unit off s.size inb).toLoadRect.set ⊆ m.view.set)
    {hl : m.view.LoadsAt (Rect.unit off s.size inb).toLoadRect} {k : (s.Idx → Elt F e) → KProg F α} :
    holds m c x ⊢ iprop((holds m c x -∗ wpc c (k x) Q) -∗ wpc c (Prog.op (.load m (Rect.unit off s.size inb).toLoadRect hl) k) Q) := by
  unfold holds
  iintro ⟨%f, H, %hx⟩ Hk
  iapply (wp_load 𝒱₀ (c : Thread nD τ) none Set.univ (m := m) (S := m.view.set) hS) $$ H
  iintro H
  rw [hr f, hx]
  iapply Hk
  iexists f
  isplitl; · iexact H
  ipureintro; exact hx

/-- loaded without use of the value; -/
theorem load_whole_any {α : Type} (c : Dev nD) {Q : α → sProp 𝕄} {cs : CoreSpace} {s : Shape} {e : EltTy} {m : Memref sig .tc cs s e} {r : LoadRect s}
    (hS : m.view.setOn r.set ⊆ m.view.set)
    {hl : m.view.LoadsAt r} {k : (r.shape.Idx → Elt F e) → KProg F α} :
    anyv (F := F) m c ⊢ iprop((∀ v, anyv (F := F) m c -∗ wpc c (k v) Q) -∗ wpc c (Prog.op (.load m r hl) k) Q) := by
  unfold anyv
  iintro ⟨%f, H⟩ Hk
  iapply (wp_load 𝒱₀ (c : Thread nD τ) none Set.univ (m := m) (S := m.view.set) hS) $$ H
  iintro H
  iapply Hk
  iexists f; iexact H

/-- stored. -/
theorem store_whole {α : Type} (c : Dev nD) {Q : α → sProp 𝕄} {cs : CoreSpace} {s : Shape} {e : EltTy} {m : Memref sig .tc cs s e} {off : Fin s.rank → Nat}
    {inb : ∀ a, off a + s.size a ≤ s.size a} {w : Vec F s e}
    (hr : ∀ f, m.view.read (Elt F) ((m.access (Rect.unit off s.size inb)).write (Elt F) f w Finset.univ) = w)
    (hS : (m.access (Rect.unit off s.size inb)).set ⊆ m.view.set)
    {hx : (m.access (Rect.unit off s.size inb)).Stores Finset.univ} {hm : Finset.univ = Finset.univ ∨ ∀ a, (Rect.unit off s.size inb).stride a = 1}
    {k : PUnit → KProg F α} :
    anyv (F := F) m c ⊢ iprop((holds m c w -∗ wpc c (k ⟨⟩) Q)
      -∗ wpc c (Prog.op (.store m (Rect.unit off s.size inb) w Finset.univ hx hm) k) Q) := by
  unfold anyv holds
  iintro ⟨%f, H⟩ Hk
  iapply (wp_store 𝒱₀ (c : Thread nD τ) none Set.univ (m := m) (r := Rect.unit off s.size inb) (Mk := Finset.univ) (w := w) (f := f)
    (S := m.view.set) (by rw [View.setOn_univ]; exact hS)) $$ H
  iintro H
  iapply Hk
  iexists _
  isplitl; · iexact H
  ipureintro; exact hr f

/-- A load of part of the activations, which stay as they are. -/
theorem load_acts {α : Type} (c : Dev nD) {Q : α → sProp 𝕄} {r : LoadRect S2048x4096} {f : Vec F S2048x4096 .bf16}
    {hl : a0M.view.LoadsAt r} {k : (r.shape.Idx → Elt F .bf16) → KProg F α} :
    (a0M.view.loc (c : Thread nD τ) ↦{fullShare} f : sProp 𝕄) ⊢ iprop(((a0M.view.loc (c : Thread nD τ) ↦{fullShare} f)
      -∗ wpc c (k (a0M.view.readAt (Elt F) r f)) Q) -∗ wpc c (Prog.op (.load a0M r hl) k) Q) :=
  wp_load 𝒱₀ (c : Thread nD τ) none Set.univ (m := a0M) (S := Finset.univ) (Finset.subset_univ _)

end Plain

end Cert.Proof
-- ==== Proof.Rules.lean ====
/-
  The kernel's transfers, waits and signals as rules at the head of a program.
-/
module

public import proofs.«01_k».proof.Proof.Steps

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ## The standing records -/

/-- The semaphores a device opens when it enters the kernel. -/
def osem : Fin 8 → SemLoc sig
  | 0 => .dma xsS
  | 1 => .dma xrS
  | 2 => .reg xcS
  | 3 => .reg ycS
  | 4 => .dma (ysS 0)
  | 5 => .dma (ysS 1)
  | 6 => .dma (yrS 0)
  | 7 => .dma (yrS 1)

/-- All the cells with a protocol. -/
def cellsLive : Finset (GSem nD τ sig) := Finset.univ.image fun c : Dev nD => barC c
def cellsDormant : Finset (GSem nD τ sig) := Finset.univ.image fun ck : Dev nD × Fin 8 => ((ck.1 : Thread nD τ), osem ck.2)

theorem osem_of_part (sm : SemLoc sig) (h : partOf sm ≠ .other) : sm = .reg barS ∨ ∃ k, osem k = sm := by
  revert sm; decide

theorem mem_cells (c : Dev nD) {sm : SemLoc sig} (h : partOf sm ≠ .other) : ((c : Thread nD τ), sm) ∈ cellsLive ∪ cellsDormant := by
  rcases osem_of_part sm h with rfl | ⟨k, rfl⟩
  · exact Finset.mem_union_left _ (Finset.mem_image.mpr ⟨c, Finset.mem_univ _, rfl⟩)
  · exact Finset.mem_union_right _ (Finset.mem_image.mpr ⟨(c, k), Finset.mem_univ _, rfl⟩)

section

variable (o : Dev nD → Vec F S2048x4096 .bf16) (w : Dev nD → Vec F S4096x8192 .f32)
variable (κ : GSem nD τ sig → ℕ) (ιs : Dev nD × Fin 2 → ℕ)

/-- What every device knows throughout. -/
def known : sProp 𝕄 :=
  iprop(BI.bigSep (cellsLive ∪ cellsDormant) (fun g => cellInv ER (kRd o w) (κ g) g)
    ∗ BI.bigSep Finset.univ (fun k : Dev nD × Fin 2 => slotInv ES (ιs k) k (anyv (F := F) (yrB k.2) k.1))
    ∗ levAts L lv)

instance known_persistent : BI.Persistent (known o w κ ιs) := by unfold known; infer_instance

theorem known_cell (c : Dev nD) {sm : SemLoc sig} (h : partOf sm ≠ .other) :
    known o w κ ιs ⊢ cellInv ER (kRd o w) (κ ((c : Thread nD τ), sm)) ((c : Thread nD τ), sm) := by
  have e : BI.bigSep (cellsLive ∪ cellsDormant) (fun g => cellInv ER (kRd o w) (κ g) g)
      ⊢ cellInv ER (kRd o w) (κ ((c : Thread nD τ), sm)) ((c : Thread nD τ), sm) := BI.bigSep_elim (mem_cells c h)
  unfold known
  iintro ⟨H, -⟩
  iapply e $$ H

theorem known_slot (k : Dev nD × Fin 2) : known o w κ ιs ⊢ slotInv ES (ιs k) k (anyv (F := F) (yrB k.2) k.1) := by
  have e : BI.bigSep Finset.univ (fun k : Dev nD × Fin 2 => slotInv ES (ιs k) k (anyv (F := F) (yrB k.2) k.1))
      ⊢ slotInv ES (ιs k) k (anyv (F := F) (yrB k.2) k.1) := BI.bigSep_elim (Finset.mem_univ k)
  unfold known
  iintro ⟨-, H, -⟩
  iapply e $$ H

theorem known_lev : known o w κ ιs ⊢ levAts L lv := by
  unfold known
  iintro ⟨-, -, H⟩
  iexact H

end

/-! ## What is paid at each place -/

/-- What a device owes when it has paid the places below p. -/
def owesE (c : Dev nD) (p : ℕ) : sProp 𝕄 := iprop(∃ W, owes (c : Thread nD τ) (owed c p) W)

theorem owed_x (c : Dev nD) {i : ℕ} (h : i < 8) :
    owed c (4 * i + 4) = owed c (4 * i + 5) + tallyAt ((xp c : Thread nD τ), .dma xrS) (4 * i + 4) NB := by
  rw [owed_succ c _ (by omega)]
  congr 1
  unfold pay
  rw [if_neg (by omega), show payee c _ = xp c from if_pos (by omega)]
  unfold due
  rw [if_neg (by omega), if_pos (by omega)]
theorem owed_yc (c : Dev nD) {i : ℕ} (h1 : 1 ≤ i) (h6 : i ≤ 6) :
    owed c (4 * i + 5) = owed c (4 * i + 6) + tallyAt ((yp c : Thread nD τ), .reg ycS) (4 * i + 5) 1 := by
  rw [owed_succ c _ (by omega)]
  congr 1
  unfold pay
  rw [if_neg (by omega), show payee c _ = yp c from if_neg (by omega)]
  unfold due
  rw [if_neg (by omega), if_neg (by omega), if_pos (by omega), if_pos (by omega)]
theorem owed_yc_none (c : Dev nD) {i : ℕ} (h : i = 0 ∨ i = 7) : owed c (4 * i + 5) = owed c (4 * i + 6) := by
  rw [owed_succ c _ (by omega)]
  have e : pay c (4 * i + 5) = 0 := by
    unfold pay
    rw [if_neg (by omega), show payee c _ = yp c from if_neg (by omega)]
    unfold due
    rw [if_neg (by omega), if_neg (by omega), if_pos (by omega), if_neg (by omega)]
  rw [e, add_zero]
theorem owed_xc (c : Dev nD) {i : ℕ} (h : i ≤ 6) :
    owed c (4 * i + 6) = owed c (4 * i + 7) + tallyAt ((xp c : Thread nD τ), .reg xcS) (4 * i + 6) 1 := by
  rw [owed_succ c _ (by omega)]
  congr 1
  unfold pay
  rw [if_neg (by omega), show payee c _ = xp c from if_pos (by omega)]
  unfold due
  rw [if_neg (by omega), if_neg (by omega), if_neg (by omega), if_pos (by omega), if_pos (by omega)]
theorem owed_xc_none (c : Dev nD) {i : ℕ} (h : i = 7) : owed c (4 * i + 6) = owed c (4 * i + 7) := by
  rw [owed_succ c _ (by omega)]
  have e : pay c (4 * i + 6) = 0 := by
    unfold pay
    rw [if_neg (by omega), show payee c _ = xp c from if_pos (by omega)]
    unfold due
    rw [if_neg (by omega), if_neg (by omega), if_neg (by omega), if_pos (by omega), if_neg (by omega)]
  rw [e, add_zero]
theorem owed_y (c : Dev nD) {i : ℕ} {k : Fin 2} (h : i < 8) (hk : i % 2 = k.val) :
    owed c (4 * i + 7) = owed c (4 * i + 8) + tallyAt ((yp c : Thread nD τ), .dma (yrS k)) (4 * i + 7) NB := by
  have hk' : (if (4 * i + 7) % 8 = 7 then (0 : Fin 2) else 1) = k := by
    have := k.isLt
    split <;> apply Fin.ext
    · show 0 = k.val; omega
    · show 1 = k.val; omega
  rw [owed_succ c _ (by omega)]
  congr 1
  unfold pay
  rw [if_neg (by omega), show payee c _ = yp c from if_neg (by omega)]
  unfold due
  rw [if_neg (by omega), if_neg (by omega), if_neg (by omega), if_neg (by omega), hk']
theorem owed_bar (c : Dev nD) :
    owed c 1 = owed c 4 + tallyAt (barC (xp c)) 1 1 + tallyAt (barC (yp c)) 1 1 := by
  have e2 : pay c 2 = 0 := by
    unfold pay payee due; rw [if_neg (by omega), if_pos (by omega), if_neg (by omega)]
  have e3 : pay c 3 = 0 := by
    unfold pay payee due; rw [if_neg (by omega), if_pos (by omega), if_neg (by omega)]
  rw [owed_succ c 1 (by omega), owed_succ c 2 (by omega), owed_succ c 3 (by omega), e2, e3, add_zero, add_zero, add_assoc]
  rfl

/-! ## The devices joined by a link -/

theorem routes_xp (c : Dev nD) : τ.routes (c : Thread nD τ) (xp c : Thread nD τ) = true := by revert c; decide
theorem routes_yp (c : Dev nD) : τ.routes (c : Thread nD τ) (yp c : Thread nD τ) = true := by revert c; decide

/-! ## Waits -/

section Talk

variable (o : Dev nD → Vec F S2048x4096 .bf16) (w : Dev nD → Vec F S4096x8192 .f32)
variable (κ : GSem nD τ sig → ℕ) (ιs : Dev nD × Fin 2 → ℕ)

/-- A wait for the one duty of a round. -/
theorem wait_one {α : Type} (c : Dev nD) {Q : α → sProp 𝕄} {op : TpuEff nD τ sig (Elt F) Λ₀ .tc PUnit} {sm : SemLoc sig} {n : ℕ}
    (hw : ∀ K : PUnit → sProp 𝕄, wpE (defs₀ (F := F)) 𝒱₀ (c : Thread nD τ) none Set.univ op K = waitSpec (c : Thread nD τ) Set.univ sm n K)
    {p : Part} (hp : partOf sm = p) (hne : p ≠ .other) {r : ℕ} (hd : dutiesOf p r = {0}) (hn : unitsOf p = n)
    {u q : ℕ} (huq : u < q) (hu : u < 36) {k : PUnit → KProg F α} :
    known o w κ ιs ⊢ iprop(cred (tallyAt ((c : Thread nD τ), sm) u n) -∗ owesE c q -∗ atPos ER ((c : Thread nD τ), sm) r ∅ 0
      -∗ ((owesE c q ∗ atPos ER ((c : Thread nD τ), sm) (r + 1) ∅ 0 ∗ reached ER ((c : Thread nD τ), sm) (r + 1) ∗ handed o w p c r 0)
        -∗ wpc c (k ⟨⟩) Q) -∗ wpc c (Prog.op op k) Q) := by
  unfold owesE
  iintro #HI Hc ⟨%W, HO⟩ Hat Hk
  ihave #Hcell := (known_cell o w κ ιs c (sm := sm) (hp ▸ hne)) $$ HI
  ihave #Hlev := (known_lev o w κ ιs) $$ HI
  iapply (Rounds.wp_wait_rest_token 𝒱₀ ER (kRd o w) (c : Thread nD τ) none (κ := κ ((c : Thread nD τ), sm)) hw (Set.mem_univ _) u
    (O := owed c q) (W := W) (R := r) (m := 0) (T := ∅)
    (by rw [expect_of o w c hp, hd, Finset.card_singleton, one_mul, zero_add, hn])) $$ [Hc HO Hat]
  · isplitr; · iexact Hcell
    isplitl [Hc]; · iexact Hc
    isplitl [HO]; · iexact HO
    isplitr
    · iapply (mayWait c sm huq hu) $$ Hlev
    iexact Hat
  rw [Finset.sdiff_empty, duties_of o w c hp, hd, BI.bigSep_singleton, payload_of o w c hp]
  iintro ⟨HO, Hat, #Hr, Hpay⟩
  iapply Hk
  isplitl [HO]; · iexists _; iexact HO
  isplitl [Hat]; · iexact Hat
  isplitr; · iexact Hr
  iexact Hpay

/-- A signal to a neighbour. -/
theorem signal {α : Type} (c : Dev nD) {Q : α → sProp 𝕄} {d d' : Dev nD} (hdd : d' = d) {s : Sem sig} {p : Part} (hp : partOf (.reg s) = p) (hne : p ≠ .other)
    {r t : ℕ} (hd : t ∈ dutiesOf p r) (hn : unitsOf p = 1) (hr : τ.routes (c : Thread nD τ) (d : Thread nD τ) = true)
    {q q' u : ℕ} (hO : owed c q = owed c q' + tallyAt ((d : Thread nD τ), .reg s) u 1) {k : PUnit → KProg F α} :
    known o w κ ιs ⊢ iprop(owesE c q -∗ dutyTok ER ((d : Thread nD τ), .reg s) r t -∗ handed o w p d r t -∗ reached ER ((d : Thread nD τ), .reg s) r
      -∗ (owesE c q' -∗ wpc c (k ⟨⟩) Q) -∗ wpc c (Prog.op (.semSignal (d' : Thread nD τ) s 1) k) Q) := by
  subst hdd
  unfold owesE
  iintro #HI ⟨%W, HO⟩ Htok Hpay Hr Hk
  ihave #Hcell := (known_cell o w κ ιs d' (sm := .reg s) (hp ▸ hne)) $$ HI
  iapply (Rounds.wp_signal 𝒱₀ ER (kRd o w) (c : Thread nD τ) none (dst := (d' : Thread nD τ)) (sem := s) (r := r) (d := t)
    (κ := κ ((d' : Thread nD τ), .reg s)) (by rw [duties_of o w d' hp]; exact hd) (by rw [amount_of o w d' hp, hn]) u (owed c q') hO hr) $$ [HO Htok Hpay Hr]
  · isplitr; · iexact Hcell
    isplitl [HO]; · iexact HO
    isplitl [Htok]; · iexact Htok
    isplitl [Hpay]
    · rw [payload_of o w d' hp]; iexact Hpay
    iexact Hr
  iintro HO
  iapply Hk
  iexists _; iexact HO

/-- A wait for one unit on a semaphore whose rounds have one duty. -/
theorem wait_reg {α : Type} (c : Dev nD) {Q : α → sProp 𝕄} {s : Sem sig} {p : Part} (hp : partOf (.reg s) = p) (hne : p ≠ .other)
    {r : ℕ} (hd : dutiesOf p r = {0}) (hn : unitsOf p = 1) {u q : ℕ} (huq : u < q) (hu : u < 36) {k : PUnit → KProg F α} :
    known o w κ ιs ⊢ iprop(cred (tallyAt ((c : Thread nD τ), .reg s) u 1) -∗ owesE c q -∗ atPos ER ((c : Thread nD τ), .reg s) r ∅ 0
      -∗ ((owesE c q ∗ atPos ER ((c : Thread nD τ), .reg s) (r + 1) ∅ 0 ∗ reached ER ((c : Thread nD τ), .reg s) (r + 1) ∗ handed o w p c r 0)
        -∗ wpc c (k ⟨⟩) Q) -∗ wpc c (Prog.op (.semWait s 1) k) Q) :=
  wait_one o w κ ιs c (wpE_semWait_eq 𝒱₀ (c : Thread nD τ) none Set.univ) hp hne hd hn huq hu

/-- A chunk of bf16 values takes the same units whichever buffer it lands in. -/
theorem NB_eq (m : Memref sig .tc .vmem S1024x512 .bf16) : m.view.dmaCredit = NB := rfl

/-- A wait for the units of a chunk of bf16 values. -/
theorem wait_dma {α : Type} (c : Dev nD) {Q : α → sProp 𝕄} {s s' : DmaSem sig} (hs : s' = s) {p : Part} (hp : partOf (.dma s) = p) (hne : p ≠ .other)
    {r : ℕ} (hd : dutiesOf p r = {0}) (hn : unitsOf p = NB) {u q : ℕ} (huq : u < q) (hu : u < 36)
    {src dst : Memref sig .tc .vmem S1024x512 .bf16}
    {hsrc : src.view.WordExact} {hdst : dst.view.WordExact} {k : PUnit → KProg F α} :
    known o w κ ιs ⊢ iprop(cred (tallyAt ((c : Thread nD τ), .dma s) u NB) -∗ owesE c q -∗ atPos ER ((c : Thread nD τ), .dma s) r ∅ 0
      -∗ ((owesE c q ∗ atPos ER ((c : Thread nD τ), .dma s) (r + 1) ∅ 0 ∗ reached ER ((c : Thread nD τ), .dma s) (r + 1) ∗ handed o w p c r 0)
        -∗ wpc c (k ⟨⟩) Q) -∗ wpc c (Prog.op (.waitDma2 s' src dst hsrc hdst) k) Q) := by
  obtain rfl := hs
  exact wait_one o w κ ιs c (by rw [← NB_eq dst]; exact wpE_waitDma2_eq 𝒱₀ (c : Thread nD τ) none Set.univ) hp hne hd hn huq hu

/-- An addressed transfer of a chunk of bf16 values. -/
theorem send {α : Type} (c : Dev nD) {Q : α → sProp 𝕄} {d d' : Dev nD} (hdd : d' = d) {src src' dst dst' : Memref sig .tc .vmem S1024x512 .bf16} (hs : src' = src) (hds : dst' = dst)
    {sS sS' sD sD' : DmaSem sig} (hsS : sS' = sS) (hsD : sD' = sD)
    {p p' : Part} (hp : partOf (.dma sS) = p) (hp' : partOf (.dma sD) = p') (hne : p ≠ .other) (hne' : p' ≠ .other)
    {r r' : ℕ} (hd : 0 ∈ dutiesOf p r) (hd' : 0 ∈ dutiesOf p' r') (hn : unitsOf p = NB) (hn' : unitsOf p' = NB)
    (hr : τ.routes (c : Thread nD τ) (d : Thread nD τ) = true)
    {q q' u : ℕ} (hO : owed c q = owed c q' + tallyAt ((d : Thread nD τ), .dma sD) u NB)
    {x : Vec F S1024x512 .bf16} {R : sProp 𝕄}
    (hpay : anyv (F := F) src c ⊢ handed o w p c r 0) (hpay' : iprop(holds dst d x ∗ R) ⊢ handed o w p' d r' 0)
    {hsc : dst'.view.ref.isScScratch = false} {hsrc : src'.view.WordExact} {hdst : dst'.view.WordExact}
    {hsem : DmaTarget.Typed (nD := nD) (τ := τ) (p := .tc) .vmem (.dma sD') (.remote (d' : Thread nD τ) dst' (.dma sS') hsc)} {k : PUnit → KProg F α} :
    known o w κ ιs ⊢ iprop(holds src c x -∗ anyv (F := F) dst d -∗ R -∗ owesE c q
      -∗ dutyTok ER ((c : Thread nD τ), .dma sS) r 0 -∗ reached ER ((c : Thread nD τ), .dma sS) r
      -∗ dutyTok ER ((d : Thread nD τ), .dma sD) r' 0 -∗ reached ER ((d : Thread nD τ), .dma sD) r'
      -∗ ((cred (tallyAt ((c : Thread nD τ), .dma sS) 0 NB) ∗ owesE c q') -∗ wpc c (k ⟨⟩) Q)
      -∗ wpc c (Prog.op (.enqueueDma src' (.remote (d' : Thread nD τ) dst' (.dma sS') hsc) (.dma sD') hsrc hdst hsem) k) Q) := by
  obtain rfl := hdd
  obtain rfl := hs
  obtain rfl := hds
  obtain rfl := hsS
  obtain rfl := hsD
  unfold owesE
  iintro #HI Hs Hd HR ⟨%W, HO⟩ Ht Hr Ht' Hr' Hk
  ihave #Hcell := (known_cell o w κ ιs c (sm := .dma sS') (hp ▸ hne)) $$ HI
  ihave #Hcell' := (known_cell o w κ ιs d' (sm := .dma sD') (hp' ▸ hne')) $$ HI
  unfold holds anyv
  icases Hs with ⟨%fs, Hs, %hx⟩
  icases Hd with ⟨%fd, Hd⟩
  iapply (Rounds.wp_send_pointsTo_with 𝒱₀ ER (kRd o w) (c : Thread nD τ) none (c' := (d' : Thread nD τ)) (sS := .dma sS') (sem := .dma sD') (src := src') (dst := dst')
    (q := fullShare) (fs := fs) (fd := fd) (F := R) (r₁ := r) (r₂ := r') (d₁ := 0) (d₂ := 0)
    (κ₁ := κ ((c : Thread nD τ), .dma sS')) (κ₂ := κ ((d' : Thread nD τ), .dma sD'))
    (by rw [duties_of o w c hp]; exact hd) (by rw [duties_of o w d' hp']; exact hd') u 0 NB (NB_eq dst')
    (by rw [amount_of o w c hp, hn]) (by rw [amount_of o w d' hp', hn']) (owed c q') hO (W := W)
    (by
      rw [payload_of o w c hp]
      refine BIBase.Entails.trans ?_ hpay
      unfold anyv
      iintro H; iexists fs; iexact H)
    (by
      rw [payload_of o w d' hp']
      refine BIBase.Entails.trans (sep_mono_left ?_) hpay'
      unfold holds
      iintro H
      iexists _
      isplitl; · iexact H
      ipureintro
      rw [View.read_write_univ, hx])
    hr) $$ [Hs Hd HR HO Ht Hr Ht' Hr']
  · isplitr; · iexact Hcell
    isplitr; · iexact Hcell'
    isplitl [Hs]; · iexact Hs
    isplitl [Hd HR]
    · isplitl [Hd]; · iexact Hd
      iexact HR
    isplitl [HO]; · iexact HO
    isplitl [Ht]; · iexact Ht
    isplitl [Hr]; · iexact Hr
    isplitl [Ht']; · iexact Ht'
    iexact Hr'
  iintro ⟨Hc, HO⟩
  iapply Hk
  isplitl [Hc]; · iexact Hc
  iexists _; iexact HO

/-! ## The credits of the y exchange -/

/-- What a device holds of its y credits when it has waited for n of the six. -/
def ycSt (c : Dev nD) (n : ℕ) : sProp 𝕄 :=
  if n < 6 then iprop(∃ T : Finset ℕ, atPos ER (ycC c) 0 T n ∗ BI.bigSep T (fun d => yknow (F := F) (yp c) d)) else atPos ER (ycC c) 1 ∅ 0

instance yknow_persistent (c : Dev nD) (n : ℕ) : BI.Persistent (yknow (F := F) c n) := by unfold yknow; infer_instance

theorem yknow_mono (c : Dev nD) {n m : ℕ} (h : n ≤ m) : yknow (F := F) c m ⊢ yknow c n := by
  unfold yknow
  iintro ⟨⟨H1, H2⟩, H3, H4⟩
  isplitl [H1 H2]
  · isplitl [H1]
    · iapply (released_mono ES (h := by omega)) $$ H1
    · iapply (released_mono ES (h := by omega)) $$ H2
  · isplitl [H3]
    · iapply (reached_mono ER (h := by omega)) $$ H3
    · iapply (reached_mono ER (h := by omega)) $$ H4

/-- Members of {1..6}, n of them: one is at least n. -/
theorem exists_ge {S : Finset ℕ} {n : ℕ} (hS : S ⊆ {1, 2, 3, 4, 5, 6}) (h1 : 1 ≤ n) (hn : n + ((({1, 2, 3, 4, 5, 6} : Finset ℕ)) \ S).card ≤ 6) :
    ∃ d ∈ S, n ≤ d := by
  by_contra hno
  push Not at hno
  have hsub : S ⊆ Finset.Ico 1 n := fun d hd => Finset.mem_Ico.mpr ⟨by
    have := hS hd
    simp only [Finset.mem_insert, Finset.mem_singleton] at this
    omega, hno d hd⟩
  have h2 := Finset.card_le_card hsub
  rw [Nat.card_Ico] at h2
  have h3 : ((({1, 2, 3, 4, 5, 6} : Finset ℕ)) \ S).card = 6 - S.card := Finset.card_sdiff_of_subset hS
  omega

/-- A wait for one y credit, the (n+1)-st: the neighbour has read at least n + 1 chunks. -/
theorem ycWait {α : Type} (c : Dev nD) {Q : α → sProp 𝕄} {n u q : ℕ} (hn : n < 6) (huq : u < q) (hu : u < 36) {k : PUnit → KProg F α} :
    known o w κ ιs ⊢ iprop(cred (tallyAt (ycC c) u 1) -∗ owesE c q -∗ ycSt c n
      -∗ ((owesE c q ∗ ycSt c (n + 1) ∗ yknow (F := F) (yp c) (n + 1)) -∗ wpc c (k ⟨⟩) Q)
      -∗ wpc c (Prog.op (.semWait ycS 1) k) Q) := by
  have hd0 : dutiesOf .yc 0 = {1, 2, 3, 4, 5, 6} := rfl
  have hcell : partOf (.reg ycS) ≠ .other := by decide
  unfold owesE
  rw [show ycSt (F := F) c n = iprop(∃ T : Finset ℕ, atPos ER (ycC c) 0 T n ∗ BI.bigSep T (fun d => yknow (F := F) (yp c) d)) from if_pos hn]
  iintro #HI Hc ⟨%W, HO⟩ ⟨%T, Hat, HT⟩ Hk
  ihave #Hcell := (known_cell o w κ ιs c hcell) $$ HI
  ihave #Hlev := (known_lev o w κ ιs) $$ HI
  iapply (Rounds.wp_wait 𝒱₀ ER (kRd o w) (c : Thread nD τ) none (κ := κ (ycC c)) (wpE_semWait_eq 𝒱₀ (c : Thread nD τ) none Set.univ) (Set.mem_univ _)
    (cr := Finsupp.single u 1) (O := owed c q) (W := W) {(SemLoc.reg ycS, u)} (R := 0) (m := n) (T := T)
    (by rw [Util.total_single]) (image_single_subset (SemLoc.reg ycS) u 1)) $$ [Hc HO Hat]
  · isplitr; · iexact Hcell
    isplitl [Hc]; · iexact Hc
    isplitl [HO]; · iexact HO
    isplitr
    · iapply (mayWait c (.reg ycS) huq hu) $$ Hlev
    iexact Hat
  iintro %S ⟨%hS, HO, Hat, Hpay⟩
  obtain ⟨hTS, hSd, hcount⟩ := hS
  rw [duties_of o w c partOf_yc, hd0] at hSd hcount
  rw [expect_of o w c partOf_yc, hd0] at hcount
  obtain ⟨d, hdS, hnd⟩ := exists_ge (n := n + 1) hSd (by omega) hcount
  have hpays : BI.bigSep (S \ T) (fun d => (kRd o w).payload (ycC c) 0 d) = BI.bigSep (S \ T) (fun d => yknow (F := F) (yp c) d) :=
    BI.bigSep_congr fun d _ => payload_of o w c partOf_yc 0 d
  have hall : iprop(BI.bigSep T (fun d => yknow (F := F) (yp c) d) ∗ BI.bigSep (S \ T) (fun d => (kRd o w).payload (ycC c) 0 d))
      ⊢ BI.bigSep S (fun d => yknow (F := F) (yp c) d) := by
    rw [hpays, BI.bigSep_sdiff_split hTS]; exact .rfl
  have hone : BI.bigSep S (fun d => yknow (F := F) (yp c) d) ⊢ yknow (F := F) (yp c) d := BI.bigSep_elim hdS
  ihave #Hall := hall $$ [HT Hpay]
  · isplitl [HT] <;> iassumption
  ihave #Hd := hone $$ Hall
  ihave #Hd' := (yknow_mono (F := F) (yp c) hnd) $$ Hd
  by_cases h5 : n + 1 < 6
  · iapply Hk
    isplitl [HO]; · iexists _; iexact HO
    isplitl [Hat]
    · unfold ycSt
      rw [if_pos h5]
      iexists S
      isplitl [Hat]; · iexact Hat
      iexact Hall
    iexact Hd'
  · have hn5 : n = 5 := by omega
    subst hn5
    have hS6 : ({1, 2, 3, 4, 5, 6} : Finset ℕ) ⊆ S := by
      have : ((({1, 2, 3, 4, 5, 6} : Finset ℕ)) \ S).card = 0 := by
        have h : 5 + 1 + ((({1, 2, 3, 4, 5, 6} : Finset ℕ)) \ S).card ≤ 6 := hcount
        exact Nat.le_zero.mp (Nat.le_of_add_le_add_left (a := 6) h)
      exact Finset.sdiff_eq_empty_iff_subset.mp (Finset.card_eq_zero.mp this)
    imod (Rounds.fupd_skip ER (kRd o w) (g := ycC c) (κ := κ (ycC c)) (R := 0) (m := 6) (T := S)
      (by rw [duties_of o w c partOf_yc, hd0]; exact hS6) (by rw [expect_of o w c partOf_yc, hd0]; rfl) (Set.mem_univ _)) $$ [Hat] with ⟨Hat, -⟩
    · isplitr; · iexact Hcell
      iexact Hat
    iapply Hk
    isplitl [HO]; · iexists _; iexact HO
    isplitl [Hat]
    · unfold ycSt
      rw [if_neg (by omega)]
      iexact Hat
    iexact Hd'

/-! ## The landing slots of the y exchange -/

/-- The slots a device has released once it has read n chunks, by slot. -/
theorem yknow_released (c : Dev nD) (i : ℕ) (k : Fin 2) (hk : i % 2 = k.val) :
    yknow (F := F) c (i - 1) ⊢ released ES (c, k) (i / 2 + 1) := by
  unfold yknow
  obtain ⟨k, hlt⟩ := k
  have hk' : i % 2 = k := hk
  iintro ⟨⟨H0, H1⟩, -⟩
  rcases (show k = 0 ∨ k = 1 by omega) with rfl | rfl
  · iapply (released_mono ES (k := (c, (0 : Fin 2))) (h := by omega)) $$ H0
  · iapply (released_mono ES (k := (c, (1 : Fin 2))) (h := by omega)) $$ H1
/-- The rounds its landing semaphores have reached by then. -/
theorem yknow_reached (c : Dev nD) (i : ℕ) (k : Fin 2) (hk : i % 2 = k.val) :
    yknow (F := F) c (i - 1) ⊢ reached ER (yrC c k) (i / 2) := by
  unfold yknow
  obtain ⟨k, hlt⟩ := k
  have hk' : i % 2 = k := hk
  iintro ⟨-, H0, H1⟩
  rcases (show k = 0 ∨ k = 1 by omega) with rfl | rfl
  · iapply (reached_mono ER (g := yrC c 0) (h := by omega)) $$ H0
  · iapply (reached_mono ER (g := yrC c 1) (h := by omega)) $$ H1

/-- The sender takes the slot of chunk i when its neighbour has read i - 1 chunks. -/
theorem slotTake (c : Dev nD) (i : ℕ) {k : Fin 2} (hk : i % 2 = k.val) :
    known o w κ ιs ⊢ iprop(yknow (F := F) c (i - 1) -∗ writeTok ES (c, k) (i / 2 + 1) -∗ |={Set.univ}=> anyv (F := F) (yrB k) c) := by
  iintro #HI #Hy Ht
  ihave #Hslot := (known_slot o w κ ιs (c, k)) $$ HI
  ihave #Hrel := (yknow_released (F := F) c i k hk) $$ Hy
  iapply (slot_take ES (ι := ιs (c, k)) (Set.mem_univ _) (i / 2 + 1))
  isplitr; · iexact Hslot
  isplitr; · iexact Hrel
  iexact Ht

theorem anyv_excl {sp : Space} {s : Shape} {e : EltTy} (v : Memref sig .tc sp s e) (c : Dev nD) (hne : v.view.set.Nonempty) :
    iprop(anyv (F := F) v c ∗ anyv (F := F) v c) ⊢ (iprop(False) : sProp 𝕄) := by
  obtain ⟨i, hi⟩ := hne
  unfold anyv
  iintro ⟨⟨%f, H⟩, ⟨%g, H'⟩⟩
  have hno : iprop((v.view.loc (c : Thread nD τ) ↦[v.view.set]{fullShare} f) ∗ v.view.loc (c : Thread nD τ) ↦[v.view.set]{fullShare} g)
      ⊢ (⌜False⌝ : sProp 𝕄) := pointsTo_full_full_false (i := i) hi hi
  iapply hno
  isplitl [H] <;> iassumption

theorem yrB_nonempty (k : Fin 2) : (yrB k).view.set.Nonempty :=
  ⟨_, View.emb_mem_set _ (fun a => ⟨0, by revert a; decide⟩)⟩

/-- The receiver gives a slot up. -/
theorem slotGive (c : Dev nD) (k : Fin 2) (n : ℕ) :
    known o w κ ιs ⊢ iprop(readerAt ES (c, k) n -∗ anyv (F := F) (yrB k) c
      -∗ |={Set.univ}=> (readerAt ES (c, k) (n + 1) ∗ released ES (c, k) (n + 1))) := by
  iintro #HI Hr Hs
  ihave #Hslot := (known_slot o w κ ιs (c, k)) $$ HI
  iapply (slot_release ES (ι := ιs (c, k)) (S := anyv (F := F) (yrB k) c) (Set.mem_univ _) (anyv_excl _ _ (yrB_nonempty k)) n)
  isplitr; · iexact Hslot
  isplitl [Hr] <;> iassumption

/-- One more chunk read. -/
theorem yknow_step0 (c : Dev nD) {n : ℕ} (hn : n % 2 = 0) :
    iprop(yknow (F := F) c n ∗ released ES (c, (0 : Fin 2)) (n / 2 + 2) ∗ reached ER (yrC c 0) (n / 2 + 1)) ⊢ yknow (F := F) c (n + 1) := by
  unfold yknow
  iintro ⟨⟨⟨-, H1⟩, -, H3⟩, Ha, Hb⟩
  isplitl [Ha H1]
  · isplitl [Ha]
    · iapply (released_mono ES (h := by omega)) $$ Ha
    · iapply (released_mono ES (h := by omega)) $$ H1
  · isplitl [Hb]
    · iapply (reached_mono ER (h := by omega)) $$ Hb
    · iapply (reached_mono ER (h := by omega)) $$ H3
theorem yknow_step1 (c : Dev nD) {n : ℕ} (hn : n % 2 = 1) :
    iprop(yknow (F := F) c n ∗ released ES (c, (1 : Fin 2)) (n / 2 + 2) ∗ reached ER (yrC c 1) (n / 2 + 1)) ⊢ yknow (F := F) c (n + 1) := by
  unfold yknow
  iintro ⟨⟨⟨H0, -⟩, H2, -⟩, Ha, Hb⟩
  isplitl [H0 Ha]
  · isplitl [H0]
    · iapply (released_mono ES (h := by omega)) $$ H0
    · iapply (released_mono ES (h := by omega)) $$ Ha
  · isplitl [H2]
    · iapply (reached_mono ER (h := by omega)) $$ H2
    · iapply (reached_mono ER (h := by omega)) $$ Hb

end Talk

/-! ## Copies within a device -/

/-- The share of Wo each slot's copies read with. -/
def half (k : Fin 2) : PosShare TreeShare := if k = 0 then fullShare.left else fullShare.right

/-- The units of a copy of a chunk of Wo, and of a chunk of the result. -/
abbrev NW : ℕ := (woB 0).view.dmaCredit
abbrev NO : ℕ := (outSl 0).view.dmaCredit
theorem NW_pos : 0 < NW := View.dmaCredit_pos _ (by decide)
theorem NO_pos : 0 < NO := View.dmaCredit_pos _ (by decide)
theorem NW_eq (k : Fin 2) : (woB k).view.dmaCredit = NW := by revert k; decide
theorem NO_eq (n : ℕ) : (outSl n).view.dmaCredit = NO := rfl

section Local

variable (w : Dev nD → Vec F S4096x8192 .f32)

/-- Slot k of the Wo buffer between copies, -/
def woIdle (c : Dev nD) (k : Fin 2) : sProp 𝕄 :=
  iprop(anyv (F := F) (woB k) c ∗ (a1M.view.loc (c : Thread nD τ) ↦{half k} w c) ∗ semVal ((c : Thread nD τ), .dma (woS k)) 0)
/-- while chunk i is on its way, -/
def woFlight (c : Dev nD) (k : Fin 2) (i : ℕ) : sProp 𝕄 :=
  iprop(∃ D : sProp 𝕄, Transfers.Flight EC (c : Thread nD τ) (.dma (woS k)) 0 NW D
    ∗ ⌜D ⊢ iprop(holds (woB k) c (woV w c i) ∗ ((woSl c i).view.loc (c : Thread nD τ) ↦[(woSl c i).view.set]{half k} w c))⌝
    ∗ (a1M.view.loc (c : Thread nD τ) ↦[Finset.univ \ (woSl c i).view.set]{half k} w c))
/-- and when it holds it. -/
def woHas (c : Dev nD) (k : Fin 2) (i : ℕ) : sProp 𝕄 :=
  iprop(holds (woB k) c (woV w c i) ∗ (a1M.view.loc (c : Thread nD τ) ↦{half k} w c) ∗ semVal ((c : Thread nD τ), .dma (woS k)) 0)

theorem woHas_idle (c : Dev nD) (k : Fin 2) (i : ℕ) : woHas w c k i ⊢ woIdle w c k := by
  unfold woHas woIdle
  iintro ⟨H, H2, H3⟩
  isplitl [H]; · iapply (holds_anyv _ _ _) $$ H
  isplitl [H2] <;> iassumption

/-- The start of a copy of a chunk of Wo. -/
theorem woStart {α : Type} (c : Dev nD) {Q : α → sProp 𝕄} {j : Fin 2} {i : ℕ}
    {src : Memref sig .tc .hbm S4096x512 .f32} (hs : src = woSl c i) {dst : Memref sig .tc .vmem S4096x512 .f32} (hd : dst = woB j)
    {s : DmaSem sig} (hsm : s = woS j)
    {hsrc : src.view.WordExact} {hdst : dst.view.WordExact} {hsem : DmaTarget.Typed (nD := nD) (τ := τ) (p := .tc) .hbm (.dma s) (.here dst)}
    {k : PUnit → KProg F α} :
    woIdle w c j ⊢ iprop((woFlight w c j i -∗ wpc c (k ⟨⟩) Q) -∗ wpc c (Prog.op (.enqueueDma src (.here dst) (.dma s) hsrc hdst hsem) k) Q) := by
  subst hs hd hsm
  unfold woIdle woFlight anyv
  iintro ⟨⟨%fd, Hd⟩, Ha, Hv⟩ Hk
  icases (pointsTo_split_subset (Finset.subset_univ (woSl c i).view.set)).1 $$ Ha with ⟨Hs, Hrest⟩
  iapply (Transfers.wp_dmaLocal EC 𝒱₀ (c : Thread nD τ) none (src := woSl c i) (dst := woB j) (via := .same) (sm := .dma (woS j)) (q := half j)
    (fs := w c) (fd := fd) (Sd := (woB j).view.set) 0 NW (NW_eq j) NW_pos (Finset.Subset.refl _)) $$ [Hs Hd Hv]
  · isplitl [Hs]; · iexact Hs
    isplitl [Hd]; · iexact Hd
    iexact Hv
  iintro HF
  iapply Hk
  iexists _
  isplitl [HF]; · iexact HF
  isplitr
  · ipureintro
    iintro ⟨H, H2⟩
    isplitl [H]
    · unfold holds
      iexists _
      isplitl; · iexact H
      ipureintro
      rw [View.read_write_univ]; rfl
    iexact H2
  iexact Hrest

/-- The end of a copy of a chunk of Wo. -/
theorem woWait {α : Type} (c : Dev nD) {Q : α → sProp 𝕄} {j : Fin 2} {i q : ℕ} (hq : 0 < q)
    {src : Memref sig .tc .hbm S4096x512 .f32} {dst : Memref sig .tc .vmem S4096x512 .f32} (hd : dst = woB j)
    {s : DmaSem sig} (hsm : s = woS j) {hsrc : src.view.WordExact} {hdst : dst.view.WordExact} {k : PUnit → KProg F α} :
    (levAts L lv : sProp 𝕄) ⊢ iprop(woFlight w c j i -∗ owesE c q -∗ ((woHas w c j i ∗ owesE c q) -∗ wpc c (k ⟨⟩) Q)
      -∗ wpc c (Prog.op (.waitDma2 s src dst hsrc hdst) k) Q) := by
  subst hd hsm
  unfold woFlight woHas owesE
  iintro #Hlev ⟨%D, HF, %hD, Hrest⟩ ⟨%W, HO⟩ Hk
  iapply (Transfers.wp_waitLocalO EC 𝒱₀ (c : Thread nD τ) none 0 (NW_eq j)) $$ [HF HO]
  · isplitl [HF]; · iexact HF
    isplitl [HO]; · iexact HO
    iapply (mayWait c (.dma (woS j)) hq (by omega)) $$ Hlev
  iintro ⟨HD, Hv, HO⟩
  icases hD $$ HD with ⟨Hh, Hs⟩
  iapply Hk
  isplitr [HO]
  · isplitl [Hh]; · iexact Hh
    isplitr [Hv]
    · iapply (pointsTo_split_subset (Finset.subset_univ (woSl c i).view.set)).2
      isplitl [Hs] <;> iassumption
    iexact Hv
  iexists _; iexact HO

theorem outSl_disjoint {m n : ℕ} (hm : m < 16) (hn : n < 16) (h : m ≠ n) : Disjoint (outSl m).view.set (outSl n).view.set := by
  rw [Memref.set_view_squeeze, Memref.set_view_squeeze]
  refine View.disjoint_slice_of_sep _ _ _ (2 : Fin 3) rfl rfl ?_
  show 512 * (m % 16) + 512 ≤ 512 * (n % 16) ∨ 512 * (n % 16) + 512 ≤ 512 * (m % 16)
  omega

/-- A copy of a chunk into the result, start and end. -/
theorem outCopy {α : Type} (c : Dev nD) {Q : α → sProp 𝕄} {n q : ℕ} (hn : n < 16) (hq : 0 < q) {x : Vec F S1024x512 .f32} {f : Vec F S1x1024x8192 .f32}
    {src src' : Memref sig .tc .vmem S1024x512 .f32} {dst dst' : Memref sig .tc .hbm S1024x512 .f32} (hd : dst = outSl n) (hd' : dst' = outSl n)
    {s s' : DmaSem sig} (hsm : s = outS) (hsm' : s' = outS)
    {hsrc : src.view.WordExact} {hdst : dst.view.WordExact} {hsem : DmaTarget.Typed (nD := nD) (τ := τ) (p := .tc) .vmem (.dma s) (.here dst)}
    {hsrc' : src'.view.WordExact} {hdst' : dst'.view.WordExact}
    {k : PUnit → KProg F α} :
    (levAts L lv : sProp 𝕄) ⊢ iprop(holds src c x -∗ (a2M.view.loc (c : Thread nD τ) ↦{fullShare} f) -∗ semVal ((c : Thread nD τ), .dma outS) 0 -∗ owesE c q
      -∗ ((∃ f', holds src c x ∗ (a2M.view.loc (c : Thread nD τ) ↦{fullShare} f') ∗ semVal ((c : Thread nD τ), .dma outS) 0 ∗ owesE c q
          ∗ ⌜(outSl n).view.read (Elt F) f' = x ∧ ∀ m, m < 16 → m ≠ n → (outSl m).view.read (Elt F) f' = (outSl m).view.read (Elt F) f⌝)
        -∗ wpc c (k ⟨⟩) Q)
      -∗ wpc c (Prog.op (.enqueueDma src (.here dst) (.dma s) hsrc hdst hsem) fun _ => Prog.op (.waitDma2 s' src' dst' hsrc' hdst') k) Q) := by
  subst hd hd' hsm hsm'
  unfold holds owesE
  iintro #Hlev ⟨%fs, Hs, %hx⟩ Hd Hv ⟨%W, HO⟩ Hk
  iapply (Transfers.wp_dmaLocal EC 𝒱₀ (c : Thread nD τ) none (src := src) (dst := outSl n) (via := .same) (sm := .dma outS) (q := fullShare)
    (fs := fs) (fd := f) (Sd := Finset.univ) 0 NO (NO_eq n) NO_pos (Finset.subset_univ _)) $$ [Hs Hd Hv]
  · isplitl [Hs]; · iexact Hs
    isplitl [Hd]; · iexact Hd
    iexact Hv
  iintro HF
  iapply (Transfers.wp_waitLocalO EC 𝒱₀ (c : Thread nD τ) none 0 (NO_eq n)) $$ [HF HO]
  · isplitl [HF]; · iexact HF
    isplitl [HO]; · iexact HO
    iapply (mayWait c (.dma outS) hq (by omega)) $$ Hlev
  iintro ⟨⟨Hd, Hs⟩, Hv, HO⟩
  iapply Hk
  iexists _
  isplitl [Hs]
  · iexists fs
    isplitl; · iexact Hs
    ipureintro; exact hx
  isplitl [Hd]; · iexact Hd
  isplitl [Hv]; · iexact Hv
  isplitl [HO]; · iexists _; iexact HO
  ipureintro
  constructor
  · rw [View.read_write_univ]; exact hx
  · intro m hm hne
    have hdis := outSl_disjoint hm hn hne
    refine View.read_congr fun i hi => View.write_of_not_mem (v := (outSl n).view) _ _ _ ?_
    rw [View.setOn_univ]
    exact Finset.disjoint_left.mp hdis hi

end Local

end Cert.Proof
-- ==== Proof.Moves.lean ====
/-
  The moves of the exchange, each at the chunk it is made for: what a device gives up and what it gets.
-/
module

public import proofs.«01_k».proof.Proof.Rules

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-- A piece of a program run up to what the rest needs of it. -/
theorem cut_bind {α : Type} (c : Dev nD) {Q : α → sProp 𝕄} (M : sProp 𝕄) {p : KProg F PUnit} {k : PUnit → KProg F α} :
    wpc c p (fun _ => M) ⊢ iprop((M -∗ wpc c (k ⟨⟩) Q) -∗ wpc c (p >>= k) Q) := by
  rw [show wpc c (p >>= k) Q = wpc c p (fun a => wpc c (k a) Q) from wp_bind _ _ _ _ _ _]
  iintro H Hk
  iapply (wp_wand_r frame (wpE (defs₀ (F := F)) 𝒱₀ (c : Thread nD τ) none) Set.univ)
  isplitl [H]; · iexact H
  iintro %a HM
  iapply Hk $$ HM

/-- A conditional piece of a program, run up to what the rest needs of either branch. -/
theorem cut_if {α : Type} (c : Dev nD) {Q : α → sProp 𝕄} (M : sProp 𝕄) {P : Prop} [Decidable P] {A : P → KProg F α} {K : KProg F α} :
    iprop((∀ h : P, (M -∗ wpc c K Q) -∗ wpc c (A h) Q) ∧ (⌜¬ P⌝ -∗ M)) ⊢ iprop((M -∗ wpc c K Q) -∗ wpc c (if h : P then A h else K) Q) := by
  by_cases h : P
  · rw [dif_pos h]
    iintro H Hk
    icases H with ⟨H, -⟩
    iapply H $$ Hk
  · rw [dif_neg h]
    iintro H Hk
    icases H with ⟨-, H⟩
    iapply Hk
    iapply H
    ipureintro; exact h

/-- The end of a program. -/
theorem ret_intro {α : Type} (c : Dev nD) {Q : α → sProp 𝕄} {a : α} : Q a ⊢ wpc c (Prog.ret a) Q := by
  rw [show wpc c (Prog.ret a) Q = iprop(|={Set.univ}=> Q a) from wp_ret _ _ _ _ _]
  iintro H
  imodintro
  iexact H

theorem ret_eq {α : Type} (c : Dev nD) {Q : α → sProp 𝕄} {a : α} (a' : α) (h : a = a') : Q a' ⊢ wpc c (Prog.ret a) Q := by
  subst h; exact ret_intro c

/-! ## The neighbours as the program names them -/

theorem dev_x (c : Dev nD) {n : ℕ} (h : n < nD) (e : n = ((c.val % 2) + 2) - 2 * (c.val / 2)) : (⟨n, h⟩ : Dev nD) = xp c := Fin.ext e
theorem dev_y (c : Dev nD) {n : ℕ} (h : n < nD) (e : n = (2 * (c.val / 2) + 1) - (c.val % 2)) : (⟨n, h⟩ : Dev nD) = yp c := Fin.ext e

theorem duty_mem {p : Part} {r : ℕ} (h : dutiesOf p r = {0}) : 0 ∈ dutiesOf p r := by rw [h]; exact Finset.mem_singleton_self _

section Moves

variable (o : Dev nD → Vec F S2048x4096 .bf16) (w : Dev nD → Vec F S4096x8192 .f32)
variable (κ : GSem nD τ sig → ℕ) (ιs : Dev nD × Fin 2 → ℕ)

/-! ## Along x -/

/-- What lets device c send chunk i along x: the neighbour's landing buffer is free. -/
def xdst (c : Dev nD) (i : ℕ) : sProp 𝕄 :=
  iprop(anyv (F := F) xrM (xp c) ∗ reached ER (xrC (xp c)) i ∗ reached ER (xcC c) i)

/-- The wait for the credit that lets it send chunk i. -/
theorem xcWait {α : Type} (c : Dev nD) {Q : α → sProp 𝕄} {i : ℕ} (h1 : 1 ≤ i) (h8 : i < 8) {q : ℕ} (hq : 4 * i + 2 < q) {k : PUnit → KProg F α} :
    known o w κ ιs ⊢ iprop(cred (tallyAt (xcC c) (4 * i + 2) 1) -∗ owesE c q -∗ atPos ER (xcC c) (i - 1) ∅ 0
      -∗ ((owesE c q ∗ atPos ER (xcC c) i ∅ 0 ∗ xdst (F := F) c i) -∗ wpc c (k ⟨⟩) Q) -∗ wpc c (Prog.op (.semWait xcS 1) k) Q) := by
  iintro #HI Hc HO Hat Hk
  iapply (wait_reg o w κ ιs c (s := xcS) partOf_xc (by decide) (r := i - 1) (if_pos (by omega)) rfl hq (by omega)) $$ HI Hc HO Hat
  rw [show i - 1 + 1 = i by omega]
  unfold handed xdst
  rw [show i - 1 + 1 = i by omega]
  iintro ⟨HO, Hat, #Hr, Hd, Hr'⟩
  iapply Hk
  isplitl [HO]; · iexact HO
  isplitl [Hat]; · iexact Hat
  isplitl [Hd]; · iexact Hd
  isplitl [Hr']; · iexact Hr'
  iexact Hr

/-- Chunk i sent along x. -/
theorem xSend {α : Type} (c : Dev nD) {Q : α → sProp 𝕄} {d' : Dev nD} (hdd : d' = xp c) {i : ℕ} (h8 : i < 8)
    {src dst : Memref sig .tc .vmem S1024x512 .bf16} (hs : src = xsM) (hds : dst = xrM)
    {sS sD : DmaSem sig} (hsS : sS = xsS) (hsD : sD = xrS)
    {hsc : dst.view.ref.isScScratch = false} {hsrc : src.view.WordExact} {hdst : dst.view.WordExact}
    {hsem : DmaTarget.Typed (nD := nD) (τ := τ) (p := .tc) .vmem (.dma sD) (.remote (d' : Thread nD τ) dst (.dma sS) hsc)} {k : PUnit → KProg F α} :
    known o w κ ιs ⊢ iprop(holds xsM c (xval o w c i) -∗ xdst (F := F) c i -∗ owesE c (4 * i + 4)
      -∗ dutyTok ER (xsC c) i 0 -∗ reached ER (xsC c) i -∗ dutyTok ER (xrC (xp c)) i 0
      -∗ ((cred (tallyAt (xsC c) 0 NB) ∗ owesE c (4 * i + 5)) -∗ wpc c (k ⟨⟩) Q)
      -∗ wpc c (Prog.op (.enqueueDma src (.remote (d' : Thread nD τ) dst (.dma sS) hsc) (.dma sD) hsrc hdst hsem) k) Q) := by
  unfold xdst
  iintro #HI Hs ⟨Hd, Hr', HR⟩ HO Ht Hr Ht' Hk
  iapply (send o w κ ιs c hdd hs hds hsS hsD partOf_xs partOf_xr (by decide) (by decide) (r := i) (r' := i)
    (duty_mem (if_pos h8)) (duty_mem (if_pos h8)) rfl rfl (routes_xp c)
    (owed_x c h8) (x := xval o w c i) (R := reached ER (xcC c) i) .rfl
    (by
      unfold handed
      rw [xp_xp])) $$ HI Hs Hd HR HO Ht Hr Ht' Hr' Hk

/-- The chunk has left. -/
theorem xsWait {α : Type} (c : Dev nD) {Q : α → sProp 𝕄} {i : ℕ} (h8 : i < 8) {q : ℕ} (hq : 0 < q) {s : DmaSem sig} (hs : s = xsS)
    {src dst : Memref sig .tc .vmem S1024x512 .bf16}
    {hsrc : src.view.WordExact} {hdst : dst.view.WordExact} {k : PUnit → KProg F α} :
    known o w κ ιs ⊢ iprop(cred (tallyAt (xsC c) 0 NB) -∗ owesE c q -∗ atPos ER (xsC c) i ∅ 0
      -∗ ((owesE c q ∗ atPos ER (xsC c) (i + 1) ∅ 0 ∗ reached ER (xsC c) (i + 1) ∗ anyv (F := F) xsM c)
        -∗ wpc c (k ⟨⟩) Q) -∗ wpc c (Prog.op (.waitDma2 s src dst hsrc hdst) k) Q) :=
  wait_dma o w κ ιs c hs partOf_xs (by decide) (if_pos h8) rfl hq (by omega)

/-- The neighbour's chunk has landed. -/
theorem xrWait {α : Type} (c : Dev nD) {Q : α → sProp 𝕄} {i : ℕ} (h8 : i < 8) {q : ℕ} (hq : 4 * i + 4 < q) {s : DmaSem sig} (hs : s = xrS)
    {src dst : Memref sig .tc .vmem S1024x512 .bf16}
    {hsrc : src.view.WordExact} {hdst : dst.view.WordExact} {k : PUnit → KProg F α} :
    known o w κ ιs ⊢ iprop(cred (tallyAt (xrC c) (4 * i + 4) NB) -∗ owesE c q -∗ atPos ER (xrC c) i ∅ 0
      -∗ ((owesE c q ∗ atPos ER (xrC c) (i + 1) ∅ 0 ∗ reached ER (xrC c) (i + 1) ∗ holds xrM c (xval o w (xp c) i) ∗ reached ER (xcC (xp c)) i)
        -∗ wpc c (k ⟨⟩) Q) -∗ wpc c (Prog.op (.waitDma2 s src dst hsrc hdst) k) Q) :=
  wait_dma o w κ ιs c hs partOf_xr (by decide) (if_pos h8) rfl hq (by omega)

/-- The landing buffer given back. -/
theorem xcSignal {α : Type} (c : Dev nD) {Q : α → sProp 𝕄} {d' : Dev nD} (hdd : d' = xp c) {i : ℕ} (h : i ≤ 6) {k : PUnit → KProg F α} :
    known o w κ ιs ⊢ iprop(owesE c (4 * i + 6) -∗ dutyTok ER (xcC (xp c)) i 0 -∗ anyv (F := F) xrM c -∗ reached ER (xrC c) (i + 1) -∗ reached ER (xcC (xp c)) i
      -∗ (owesE c (4 * i + 7) -∗ wpc c (k ⟨⟩) Q) -∗ wpc c (Prog.op (.semSignal (d' : Thread nD τ) xcS 1) k) Q) := by
  iintro #HI HO Ht Hb Hr Hr' Hk
  iapply (signal o w κ ιs c hdd partOf_xc (by decide) (r := i) (t := 0) (duty_mem (if_pos (by omega))) rfl
    (routes_xp c) (owed_xc c h)) $$ HI HO Ht [Hb Hr] Hr' Hk
  unfold handed
  rw [xp_xp]
  isplitl [Hb]; · iexact Hb
  iexact Hr

/-! ## Along y -/

/-- The neighbour's chunk n = 2 r + k has landed in slot k. -/
theorem yrWait {α : Type} (c : Dev nD) {Q : α → sProp 𝕄} {n r : ℕ} {j : Fin 2} (hn : n = 2 * r + j.val) (hr : r < 4) {q : ℕ} (hq : 4 * n + 7 < q)
    {s : DmaSem sig} (hs : s = yrS j) {src dst : Memref sig .tc .vmem S1024x512 .bf16}
    {hsrc : src.view.WordExact} {hdst : dst.view.WordExact} {k : PUnit → KProg F α} :
    known o w κ ιs ⊢ iprop(cred (tallyAt (yrC c j) (4 * n + 7) NB) -∗ owesE c q -∗ atPos ER (yrC c j) r ∅ 0
      -∗ ((owesE c q ∗ atPos ER (yrC c j) (r + 1) ∅ 0 ∗ reached ER (yrC c j) (r + 1) ∗ holds (yrB j) c (yval o w (yp c) n))
        -∗ wpc c (k ⟨⟩) Q) -∗ wpc c (Prog.op (.waitDma2 s src dst hsrc hdst) k) Q) := by
  subst hn
  exact wait_dma o w κ ιs c hs (partOf_yr j) (by simp) (if_pos hr) rfl hq (by have := j.isLt; omega)

/-- A slot given back: i chunks have been read. -/
theorem ycSignal {α : Type} (c : Dev nD) {Q : α → sProp 𝕄} {d' : Dev nD} (hdd : d' = yp c) {i : ℕ} (h1 : 1 ≤ i) (h6 : i ≤ 6) {k : PUnit → KProg F α} :
    known o w κ ιs ⊢ iprop(owesE c (4 * i + 5) -∗ dutyTok ER (ycC (yp c)) 0 i -∗ yknow (F := F) c i -∗ reached ER (ycC (yp c)) 0
      -∗ (owesE c (4 * i + 6) -∗ wpc c (k ⟨⟩) Q) -∗ wpc c (Prog.op (.semSignal (d' : Thread nD τ) ycS 1) k) Q) := by
  iintro #HI HO Ht Hy Hr Hk
  iapply (signal o w κ ιs c hdd partOf_yc (by decide) (r := 0) (t := i)
    (by show i ∈ ({1, 2, 3, 4, 5, 6} : Finset ℕ); simp only [Finset.mem_insert, Finset.mem_singleton]; omega) rfl
    (routes_yp c) (owed_yc c h1 h6)) $$ HI HO Ht [Hy] Hr Hk
  unfold handed
  rw [yp_yp]
  iexact Hy

/-- The chunk of slot k, sent in round r, has left. -/
theorem ysWait {α : Type} (c : Dev nD) {Q : α → sProp 𝕄} {r : ℕ} {j : Fin 2} (hr : r < 4) {q : ℕ} (hq : 0 < q)
    {s : DmaSem sig} (hs : s = ysS j) {src dst : Memref sig .tc .vmem S1024x512 .bf16}
    {hsrc : src.view.WordExact} {hdst : dst.view.WordExact} {k : PUnit → KProg F α} :
    known o w κ ιs ⊢ iprop(cred (tallyAt (ysC c j) 0 NB) -∗ owesE c q -∗ atPos ER (ysC c j) r ∅ 0
      -∗ ((owesE c q ∗ atPos ER (ysC c j) (r + 1) ∅ 0 ∗ reached ER (ysC c j) (r + 1) ∗ anyv (F := F) (ysB j) c)
        -∗ wpc c (k ⟨⟩) Q) -∗ wpc c (Prog.op (.waitDma2 s src dst hsrc hdst) k) Q) :=
  wait_dma o w κ ιs c hs (partOf_ys j) (by simp) (if_pos hr) rfl hq (by omega)

/-- Chunk i = 2 r + k sent along y from slot k, the neighbour having read i - 1 chunks. -/
theorem ySend {α : Type} (c : Dev nD) {Q : α → sProp 𝕄} {d' : Dev nD} (hdd : d' = yp c) {i r : ℕ} {j : Fin 2} (hi : i = 2 * r + j.val) (hr : r < 4)
    {src dst : Memref sig .tc .vmem S1024x512 .bf16} (hs : src = ysB j) (hds : dst = yrB j)
    {sS sD : DmaSem sig} (hsS : sS = ysS j) (hsD : sD = yrS j)
    {hsc : dst.view.ref.isScScratch = false} {hsrc : src.view.WordExact} {hdst : dst.view.WordExact}
    {hsem : DmaTarget.Typed (nD := nD) (τ := τ) (p := .tc) .vmem (.dma sD) (.remote (d' : Thread nD τ) dst (.dma sS) hsc)} {k : PUnit → KProg F α} :
    known o w κ ιs ⊢ iprop(holds (ysB j) c (yval o w c i) -∗ yknow (F := F) (yp c) (i - 1) -∗ writeTok ES (yp c, j) (r + 1) -∗ owesE c (4 * i + 7)
      -∗ dutyTok ER (ysC c j) r 0 -∗ reached ER (ysC c j) r -∗ dutyTok ER (yrC (yp c) j) r 0
      -∗ ((cred (tallyAt (ysC c j) 0 NB) ∗ owesE c (4 * i + 8)) -∗ wpc c (k ⟨⟩) Q)
      -∗ wpc c (Prog.op (.enqueueDma src (.remote (d' : Thread nD τ) dst (.dma sS) hsc) (.dma sD) hsrc hdst hsem) k) Q) := by
  have hj : j.val < 2 := j.isLt
  have hm : i % 2 = j.val := by omega
  have h2 : i / 2 = r := by omega
  have htake := slotTake o w κ ιs (yp c) i hm
  have hreach := yknow_reached (F := F) (yp c) i j hm
  rw [h2] at htake hreach
  iintro #HI Hs #Hy Hw HO Ht Hr Ht' Hk
  ihave #Hr' := hreach $$ Hy
  imod htake $$ HI Hy Hw with Hd
  iapply (send o w κ ιs c hdd hs hds hsS hsD (partOf_ys j) (partOf_yr j) (by simp) (by simp) (r := r) (r' := r)
    (duty_mem (if_pos hr)) (duty_mem (if_pos hr)) rfl rfl (routes_yp c)
    (owed_y c (k := j) (by omega) hm) (x := yval o w c i) (R := iprop(emp)) .rfl
    (by
      dsimp only [handed]
      rw [yp_yp, ← hi]
      iintro ⟨H, -⟩
      iexact H)) $$ HI Hs Hd [] HO Ht Hr Ht' Hr' Hk
  iempintro

end Moves

end Cert.Proof
-- ==== Proof.Local.lean ====
/-
  The local steps of the kernel: its buffers loaded and stored, its copies of chunks of the result, the places it names.
-/
module

public import Idealize.ShloMosaic.Lib.Pipeline.Value
public import proofs.«01_k».proof.Proof.Moves

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ## Buffers used whole -/

section Buffers

variable (c : Dev nD)

theorem zero2 : (![0, 0] : Fin 2 → ℕ) = fun _ => 0 := by funext a; fin_cases a <;> rfl

omit [FloatOps F] in
theorem storedXs (inb : ∀ a, (![0, 0] : Fin 2 → ℕ) a + S1024x512.size a ≤ S1024x512.size a) (f x : Vec F S1024x512 .bf16) :
    xsM.view.read (Elt F) ((xsM.access (Rect.unit (s := S1024x512) ![0, 0] S1024x512.size inb)).write (Elt F) f x Finset.univ) = x :=
  (View.read_whole (Val := Elt F) cc0_scratch1 _).trans (Memref.write_access_unit_zero_univ (Elt F) cc0_scratch1 zero2 inb f x)
omit [FloatOps F] in
theorem storedSm (inb : ∀ a, (![0, 0] : Fin 2 → ℕ) a + S1024x512.size a ≤ S1024x512.size a) (f x : Vec F S1024x512 .f32) :
    smM.view.read (Elt F) ((smM.access (Rect.unit (s := S1024x512) ![0, 0] S1024x512.size inb)).write (Elt F) f x Finset.univ) = x :=
  (View.read_whole (Val := Elt F) cc0_scratch5 _).trans (Memref.write_access_unit_zero_univ (Elt F) cc0_scratch5 zero2 inb f x)
omit [FloatOps F] in
theorem storedYo (inb : ∀ a, (![0, 0] : Fin 2 → ℕ) a + S1024x512.size a ≤ S1024x512.size a) (f x : Vec F S1024x512 .f32) :
    yoM.view.read (Elt F) ((yoM.access (Rect.unit (s := S1024x512) ![0, 0] S1024x512.size inb)).write (Elt F) f x Finset.univ) = x :=
  (View.read_whole (Val := Elt F) cc0_scratch6 _).trans (Memref.write_access_unit_zero_univ (Elt F) cc0_scratch6 zero2 inb f x)

/-- The landing buffer of the x exchange, loaded. -/
theorem loadXr {α : Type} {Q : α → sProp 𝕄} {x : Vec F S1024x512 .bf16}
    {inb : ∀ a, (![0, 0] : Fin 2 → ℕ) a + S1024x512.size a ≤ S1024x512.size a}
    {hl : xrM.view.LoadsAt (Rect.unit (s := S1024x512) ![0, 0] S1024x512.size inb).toLoadRect} {k : (S1024x512.Idx → Elt F .bf16) → KProg F α} :
    holds xrM c x ⊢ iprop((holds xrM c x -∗ wpc c (k x) Q)
      -∗ wpc c (Prog.op (.load xrM (Rect.unit (s := S1024x512) ![0, 0] S1024x512.size inb).toLoadRect hl) k) Q) :=
  load_whole c (fun f => Memref.readAt_unit_zero (Elt F) cc0_scratch2 zero2 inb f) ((Finset.subset_univ _).trans (Finset.subset_of_eq (View.set_whole cc0_scratch2).symm))

/-- A buffer of f32 values, loaded without use of the value, then stored. -/
theorem storeF {α : Type} {Q : α → sProp 𝕄} {m : Memref sig .tc .vmem S1024x512 .f32} (hm : m = smM ∨ m = yoM) {x x' : Vec F S1024x512 .f32} (hx' : x' = x)
    {inb inb' : ∀ a, (![0, 0] : Fin 2 → ℕ) a + S1024x512.size a ≤ S1024x512.size a}
    {hl : m.view.LoadsAt (Rect.unit (s := S1024x512) ![0, 0] S1024x512.size inb).toLoadRect}
    {hx : (m.access (Rect.unit (s := S1024x512) ![0, 0] S1024x512.size inb')).Stores Finset.univ}
    {hk : Finset.univ = Finset.univ ∨ ∀ a, (Rect.unit (s := S1024x512) ![0, 0] S1024x512.size inb').stride a = 1}
    {k : PUnit → KProg F α} :
    anyv (F := F) m c ⊢ iprop((holds m c x -∗ wpc c (k ⟨⟩) Q)
      -∗ wpc c (Prog.op (.load m (Rect.unit (s := S1024x512) ![0, 0] S1024x512.size inb).toLoadRect hl) fun _ =>
          Prog.op (.store m (Rect.unit (s := S1024x512) ![0, 0] S1024x512.size inb') x' Finset.univ hx hk) k) Q) := by
  subst hx'
  rcases hm with rfl | rfl
  · iintro H Hk
    iapply (load_whole_any c (s := S1024x512) ((Finset.subset_univ _).trans (Finset.subset_of_eq (View.set_whole cc0_scratch5).symm))) $$ H
    iintro %v H
    iapply (store_whole c (s := S1024x512) (m := smM) (off := ![0, 0]) (inb := inb') (w := x') (fun f => storedSm inb' f x') ((Finset.subset_univ _).trans (Finset.subset_of_eq (View.set_whole cc0_scratch5).symm))) $$ H Hk
  · iintro H Hk
    iapply (load_whole_any c (s := S1024x512) ((Finset.subset_univ _).trans (Finset.subset_of_eq (View.set_whole cc0_scratch6).symm))) $$ H
    iintro %v H
    iapply (store_whole c (s := S1024x512) (m := yoM) (off := ![0, 0]) (inb := inb') (w := x') (fun f => storedYo inb' f x') ((Finset.subset_univ _).trans (Finset.subset_of_eq (View.set_whole cc0_scratch6).symm))) $$ H Hk

/-- The send buffer of the x exchange, likewise. -/
theorem storeXs {α : Type} {Q : α → sProp 𝕄} {x x' : Vec F S1024x512 .bf16} (hx' : x' = x)
    {inb inb' : ∀ a, (![0, 0] : Fin 2 → ℕ) a + S1024x512.size a ≤ S1024x512.size a}
    {hl : xsM.view.LoadsAt (Rect.unit (s := S1024x512) ![0, 0] S1024x512.size inb).toLoadRect}
    {hx : (xsM.access (Rect.unit (s := S1024x512) ![0, 0] S1024x512.size inb')).Stores Finset.univ}
    {hk : Finset.univ = Finset.univ ∨ ∀ a, (Rect.unit (s := S1024x512) ![0, 0] S1024x512.size inb').stride a = 1}
    {k : PUnit → KProg F α} :
    anyv (F := F) xsM c ⊢ iprop((holds xsM c x -∗ wpc c (k ⟨⟩) Q)
      -∗ wpc c (Prog.op (.load xsM (Rect.unit (s := S1024x512) ![0, 0] S1024x512.size inb).toLoadRect hl) fun _ =>
          Prog.op (.store xsM (Rect.unit (s := S1024x512) ![0, 0] S1024x512.size inb') x' Finset.univ hx hk) k) Q) := by
  subst hx'
  iintro H Hk
  iapply (load_whole_any c (s := S1024x512) ((Finset.subset_univ _).trans (Finset.subset_of_eq (View.set_whole cc0_scratch1).symm))) $$ H
  iintro %v H
  iapply (store_whole c (s := S1024x512) (m := xsM) (off := ![0, 0]) (inb := inb') (w := x') (fun f => storedXs inb' f x') ((Finset.subset_univ _).trans (Finset.subset_of_eq (View.set_whole cc0_scratch1).symm))) $$ H Hk

end Buffers

/-! ## The places the program names -/

section Places

variable (c : Dev nD) (j : Fin k0_t1_loop.trips)

theorem trips_lt : j.val < 4 := by
  have h := j.isLt
  have e : k0_t1_loop.trips = 4 := by decide
  omega

/-- The loop's counter. -/
abbrev it : BitVec 32 := Scf.iv 0#32 1#32 j

theorem later_iff : Scalar.cmpi .ne (Scalar.extui (Scalar.cmpi .sgt (it j) 0#32) : BitVec 32) 0#32 = 1#1 ↔ 0 < j.val := by revert j; decide
theorem cond2_iff : k0_cond2 j = 1#1 ↔ 0 < j.val := by revert j; decide
theorem cond3_iff : k0_cond3 j = 1#1 ↔ j.val < 3 := by revert j; decide
theorem cond5_iff : k0_cond5 j = 1#1 ↔ j.val < 3 := by revert j; decide
theorem cond6_iff : k0_cond6 j = 1#1 ↔ j.val < 3 := by revert j; decide
theorem cond7_iff : k0_cond7 j = 1#1 ↔ j.val < 3 := by revert j; decide

theorem y_lt (c : Dev nD) : c.val % 2 < 2 := Nat.mod_lt _ (by decide)

theorem wo_off {off : Fin 2 → ℕ} {n i : ℕ} (hi : i < 8) (h : off = ![0, n]) (hn : n = 4096 * (c.val % 2) + 512 * i)
    (inb : ∀ a, off a + S4096x512.size a ≤ S4096x8192.size a) (hs : ∀ a, (Rect.unit (s := S4096x8192) off S4096x512.size inb).stride a = 1) :
    a1M.slice (Rect.unit (s := S4096x8192) off S4096x512.size inb) hs = woSl c i :=
  Memref.slice_unit_congr a1M (by rw [h, hn, Nat.mod_eq_of_lt hi]) _ _ _ _

theorem out_off {off : Fin 3 → ℕ} {n i : ℕ} (hi : i < 16) (h : off = ![0, 0, n]) (hn : n = 512 * i)
    (inb : ∀ a, off a + S1x1024x512.size a ≤ S1x1024x8192.size a) (hs : ∀ a, (Rect.unit (s := S1x1024x8192) off S1x1024x512.size inb).stride a = 1) :
    (a2M.slice (Rect.unit (s := S1x1024x8192) off S1x1024x512.size inb) hs).squeeze S1024x512 squeezes_S1x1024x512_S1024x512 = outSl i := by
  rw [Memref.slice_unit_congr a2M (show off = ![0, 0, 512 * (i % 16)] by rw [h, hn, Nat.mod_eq_of_lt hi]) inb (inbA2 i) hs (fun _ => rfl)]

theorem off5_eq (h : 0 < j.val) : k0_off5 c j = ![0, 0, 512 * (8 * (1 - c.val % 2) + (2 * j.val - 1))] := by
  revert c j; decide +kernel

end Places

/-- A load at a slot's shape, from what the slot reads as. -/
theorem of_shapeCast {s s' : Shape} {e : EltTy} (h : s.ShapeCasts s') (h' : s'.ShapeCasts s) {v : Vec F s e} {x : Vec F s' e}
    (hv : shapeCast s' v h = x) : v = shapeCast s x h' := by
  rw [← hv, shapeCast_shapeCast]

/-! ## The result, chunk by chunk -/

section Result

variable (o : Dev nD → Vec F S2048x4096 .bf16) (w : Dev nD → Vec F S4096x8192 .f32)

/-- The result buffer when n chunks of the device's own half and n' chunks of the other half are written. -/
def outSt (c : Dev nD) (n n' : ℕ) : sProp 𝕄 :=
  iprop(∃ f : Vec F S1x1024x8192 .f32, (a2M.view.loc (c : Thread nD τ) ↦{fullShare} f)
    ∗ ⌜(∀ m < n, (outSl (8 * (c.val % 2) + m)).view.read (Elt F) f = sumv o w c m)
      ∧ ∀ m < n', (outSl (8 * (1 - c.val % 2) + m)).view.read (Elt F) f = yout o w c m⌝)

/-- A chunk of the device's own half written out. -/
theorem outSum {α : Type} (c : Dev nD) {Q : α → sProp 𝕄} {n n' q : ℕ} (hn : n < 8) (hn' : n' ≤ 8) (hq : 0 < q)
    {dst dst' : Memref sig .tc .hbm S1024x512 .f32} (hd : dst = outSl (8 * (c.val % 2) + n)) (hd' : dst' = outSl (8 * (c.val % 2) + n))
    {hsrc : smM.view.WordExact} {hdst : dst.view.WordExact} {hsem : DmaTarget.Typed (nD := nD) (τ := τ) (p := .tc) .vmem (.dma outS) (.here dst)}
    {hsrc' : smM.view.WordExact} {hdst' : dst'.view.WordExact} {k : PUnit → KProg F α} :
    (levAts L lv : sProp 𝕄) ⊢ iprop(holds smM c (sumv o w c n) -∗ outSt o w c n n' -∗ semVal ((c : Thread nD τ), .dma outS) 0 -∗ owesE c q
      -∗ ((anyv (F := F) smM c ∗ outSt o w c (n + 1) n' ∗ semVal ((c : Thread nD τ), .dma outS) 0 ∗ owesE c q) -∗ wpc c (k ⟨⟩) Q)
      -∗ wpc c (Prog.op (.enqueueDma smM (.here dst) (.dma outS) hsrc hdst hsem) fun _ => Prog.op (.waitDma2 outS smM dst' hsrc' hdst') k) Q) := by
  have hy := y_lt c
  unfold outSt
  iintro #Hlev Hs ⟨%f, Hf, %h⟩ Hv HO Hk
  iapply (outCopy c (n := 8 * (c.val % 2) + n) (by omega) hq (x := sumv o w c n) (f := f) hd hd' rfl rfl) $$ Hlev Hs Hf Hv HO
  iintro ⟨%f', Hs, Hf, Hv, HO, %hf⟩
  iapply Hk
  isplitl [Hs]; · iapply (holds_anyv _ _ _) $$ Hs
  isplitl [Hf]
  · iexists f'
    isplitl; · iexact Hf
    ipureintro
    refine ⟨fun m hm => ?_, fun m hm => ?_⟩
    · rcases Nat.lt_or_ge m n with hlt | hge
      · rw [hf.2 _ (by omega) (by omega)]; exact h.1 m hlt
      · rw [show m = n by omega]; exact hf.1
    · rw [hf.2 _ (by omega) (by omega)]; exact h.2 m hm
  isplitl [Hv]; · iexact Hv
  iexact HO

/-- A chunk of the other half written out. -/
theorem outY {α : Type} (c : Dev nD) {Q : α → sProp 𝕄} {n n' q : ℕ} (hn : n ≤ 8) (hn' : n' < 8) (hq : 0 < q)
    {dst dst' : Memref sig .tc .hbm S1024x512 .f32} (hd : dst = outSl (8 * (1 - c.val % 2) + n')) (hd' : dst' = outSl (8 * (1 - c.val % 2) + n'))
    {hsrc : yoM.view.WordExact} {hdst : dst.view.WordExact} {hsem : DmaTarget.Typed (nD := nD) (τ := τ) (p := .tc) .vmem (.dma outS) (.here dst)}
    {hsrc' : yoM.view.WordExact} {hdst' : dst'.view.WordExact} {k : PUnit → KProg F α} :
    (levAts L lv : sProp 𝕄) ⊢ iprop(holds yoM c (yout o w c n') -∗ outSt o w c n n' -∗ semVal ((c : Thread nD τ), .dma outS) 0 -∗ owesE c q
      -∗ ((anyv (F := F) yoM c ∗ outSt o w c n (n' + 1) ∗ semVal ((c : Thread nD τ), .dma outS) 0 ∗ owesE c q) -∗ wpc c (k ⟨⟩) Q)
      -∗ wpc c (Prog.op (.enqueueDma yoM (.here dst) (.dma outS) hsrc hdst hsem) fun _ => Prog.op (.waitDma2 outS yoM dst' hsrc' hdst') k) Q) := by
  have hy := y_lt c
  unfold outSt
  iintro #Hlev Hs ⟨%f, Hf, %h⟩ Hv HO Hk
  iapply (outCopy c (n := 8 * (1 - c.val % 2) + n') (by omega) hq (x := yout o w c n') (f := f) hd hd' rfl rfl) $$ Hlev Hs Hf Hv HO
  iintro ⟨%f', Hs, Hf, Hv, HO, %hf⟩
  iapply Hk
  isplitl [Hs]; · iapply (holds_anyv _ _ _) $$ Hs
  isplitl [Hf]
  · iexists f'
    isplitl; · iexact Hf
    ipureintro
    refine ⟨fun m hm => ?_, fun m hm => ?_⟩
    · rw [hf.2 _ (by omega) (by omega)]; exact h.1 m hm
    · rcases Nat.lt_or_ge m n' with hlt | hge
      · rw [hf.2 _ (by omega) (by omega)]; exact h.2 m hlt
      · rw [show m = n' by omega]; exact hf.1
  isplitl [Hv]; · iexact Hv
  iexact HO

end Result

end Cert.Proof
-- ==== Proof.TripA.lean ====
/-
  The first half of a trip up to the sum of chunk 2 t: parts 1 and 2 of the trip's program.
-/
module

public import proofs.«01_k».proof.Proof.Local

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

section Parts

variable (o : Dev nD → Vec F S2048x4096 .bf16) (w : Dev nD → Vec F S4096x8192 .f32)
variable (κ : GSem nD τ sig → ℕ) (ιs : Dev nD × Fin 2 → ℕ)

/-- The activations of a device. -/
def acts (c : Dev nD) : sProp 𝕄 := iprop(a0M.view.loc (c : Thread nD τ) ↦{fullShare} o c)

/-- What lets chunk i be sent along x: at the first chunk the buffer itself, later the credit to wait for. -/
def xcSt (c : Dev nD) (i : ℕ) : sProp 𝕄 :=
  iprop((if i = 0 then xdst (F := F) c 0 else cred (tallyAt (xcC c) (4 * i + 2) 1)) ∗ atPos ER (xcC c) (i - 1) ∅ 0)

omit [FloatOps F] in
theorem xcSt_pos (c : Dev nD) {i : ℕ} (h : i ≠ 0) :
    xcSt (F := F) c i ⊢ iprop(cred (tallyAt (xcC c) (4 * i + 2) 1) ∗ atPos ER (xcC c) (i - 1) ∅ 0) := by
  unfold xcSt; rw [if_neg h]
omit [FloatOps F] in
theorem xcSt_zero (c : Dev nD) {i : ℕ} (h : i = 0) : xcSt (F := F) c i ⊢ iprop(atPos ER (xcC c) i ∅ 0 ∗ xdst (F := F) c i) := by
  subst h
  unfold xcSt
  rw [if_pos rfl]
  iintro ⟨H, H'⟩
  isplitl [H']; · iexact H'
  iexact H

/-- Slot k of the Wo buffer when the next chunk for it is i: on its way, unless all chunks have been fetched. -/
def woSt (c : Dev nD) (k : Fin 2) (i : ℕ) : sProp 𝕄 := if i < 8 then woFlight w c k i else woIdle w c k

/-- The credit for what lands along y in slot k before chunk i is handled: chunk i - 1. -/
def crYr (c : Dev nD) (k : Fin 2) (i : ℕ) : sProp 𝕄 := if i = 0 then iprop(emp) else cred (tallyAt (yrC c k) (4 * (i - 1) + 7) NB)

/-- The credit for the y credit that chunk i waits for. -/
def crYc (c : Dev nD) (i : ℕ) : sProp 𝕄 := if i < 2 then iprop(emp) else cred (tallyAt (ycC c) (4 * i + 1) 1)

/-- Slot k of the y send buffer before trip r uses it. -/
def ysSt (c : Dev nD) (k : Fin 2) (r : ℕ) : sProp 𝕄 :=
  iprop((if r = 0 then iprop(anyv (F := F) (ysB k) c ∗ reached ER (ysC c k) 0) else cred (tallyAt (ysC c k) 0 NB)) ∗ atPos ER (ysC c k) (r - 1) ∅ 0)

/-- Slot k of the y send buffer, free to be used in trip r. -/
def ysFree (c : Dev nD) (k : Fin 2) (r : ℕ) : sProp 𝕄 :=
  iprop(anyv (F := F) (ysB k) c ∗ atPos ER (ysC c k) r ∅ 0 ∗ reached ER (ysC c k) r)

omit [FloatOps F] in
theorem ysSt_zero (c : Dev nD) (k : Fin 2) {r : ℕ} (h : r = 0) : ysSt (F := F) c k r ⊢ ysFree c k r := by
  subst h
  unfold ysSt ysFree
  rw [if_pos rfl]
  iintro ⟨⟨H, H'⟩, H2⟩
  isplitl [H]; · iexact H
  isplitl [H2]; · iexact H2
  iexact H'
omit [FloatOps F] in
theorem ysSt_pos (c : Dev nD) (k : Fin 2) {r : ℕ} (h : r ≠ 0) :
    ysSt (F := F) c k r ⊢ iprop(cred (tallyAt (ysC c k) 0 NB) ∗ atPos ER (ysC c k) (r - 1) ∅ 0) := by
  unfold ysSt; rw [if_neg h]
omit [FloatOps F] in
theorem crYr_pos (c : Dev nD) (k : Fin 2) {i : ℕ} (h : i ≠ 0) : crYr (F := F) c k i ⊢ cred (tallyAt (yrC c k) (4 * (i - 1) + 7) NB) := by
  unfold crYr; rw [if_neg h]
omit [FloatOps F] in
theorem crYc_pos (c : Dev nD) {i : ℕ} (h : ¬ i < 2) : crYc (F := F) c i ⊢ cred (tallyAt (ycC c) (4 * i + 1) 1) := by
  unfold crYc; rw [if_neg h]
theorem woSt_lt (c : Dev nD) (k : Fin 2) {i : ℕ} (h : i < 8) : woSt w c k i = woFlight w c k i := if_pos h
theorem woSt_ge (c : Dev nD) (k : Fin 2) {i : ℕ} (h : ¬ i < 8) : woSt w c k i = woIdle w c k := if_neg h

/-- The slot of the y landing buffer that holds odd chunks, before trip r reads chunk 2 r - 1. -/
def yOdd (c : Dev nD) (r : ℕ) : sProp 𝕄 :=
  iprop(atPos ER (yrC c 1) (r - 1) ∅ 0 ∗ readerAt ES (c, (1 : Fin 2)) (r - 1 + 1) ∗ yknow (F := F) c (2 * r - 1))
/-- When chunk 2 r - 1 has been read. -/
def yOdd' (c : Dev nD) (r : ℕ) : sProp 𝕄 :=
  iprop(atPos ER (yrC c 1) r ∅ 0 ∗ readerAt ES (c, (1 : Fin 2)) (r + 1) ∗ yknow (F := F) c (2 * r))

omit [FloatOps F] in
theorem yOdd_zero (c : Dev nD) {r : ℕ} (h : r = 0) : yOdd (F := F) c r ⊢ yOdd' c r := by
  subst h; exact .rfl

theorem of_yval {c : Dev nD} {i : ℕ} {v : Vec F S1x1024x512 .bf16} (h : shapeCast S1024x512 v shapeCasts_y' = yval o w c i) : v = yval3 o w c i := by
  rw [of_shapeCast shapeCasts_y' shapeCasts_y h]
  exact shapeCast_shapeCast _ _ _

theorem yknow_odd (c : Dev nD) {r : ℕ} (h : 0 < r) :
    iprop(yknow (F := F) c (2 * r - 1) ∗ released ES (c, (1 : Fin 2)) (r - 1 + 1 + 1) ∗ reached ER (yrC c 1) (r - 1 + 1)) ⊢ yknow (F := F) c (2 * r) := by
  have e := yknow_step1 (F := F) c (n := 2 * r - 1) (by omega)
  rw [show (2 * r - 1) / 2 = r - 1 by omega, show 2 * r - 1 + 1 = 2 * r by omega] at e
  exact e
theorem yknow_even (c : Dev nD) {r : ℕ} :
    iprop(yknow (F := F) c (2 * r) ∗ released ES (c, (0 : Fin 2)) (r + 2) ∗ reached ER (yrC c 0) (r + 1)) ⊢ yknow (F := F) c (2 * r + 1) := by
  have e := yknow_step0 (F := F) c (n := 2 * r) (by omega)
  rw [show (2 * r) / 2 = r by omega] at e
  exact e
omit [FloatOps F] in
theorem yOdd_intro (c : Dev nD) {r : ℕ} (h : 0 < r) :
    iprop(atPos ER (yrC c 1) (r - 1 + 1) ∅ 0 ∗ readerAt ES (c, (1 : Fin 2)) (r - 1 + 1 + 1) ∗ yknow (F := F) c (2 * r)) ⊢ yOdd' c r := by
  unfold yOdd'; rw [show r - 1 + 1 = r by omega]
theorem outSt_eq (c : Dev nD) {n n' m m' : ℕ} (h : n = m) (h' : n' = m') : outSt o w c n n' ⊢ outSt o w c m m' := by subst h h'; exact .rfl
omit [FloatOps F] in
theorem ycSt_eq (c : Dev nD) {n m : ℕ} (h : n = m) : ycSt (F := F) c n ⊢ ycSt c m := by subst h; exact .rfl
omit [FloatOps F] in
theorem ysFree_intro (c : Dev nD) (k : Fin 2) {r : ℕ} (h : 0 < r) :
    iprop(atPos ER (ysC c k) (r - 1 + 1) ∅ 0 ∗ reached ER (ysC c k) (r - 1 + 1) ∗ anyv (F := F) (ysB k) c) ⊢ ysFree c k r := by
  unfold ysFree; rw [show r - 1 + 1 = r by omega]
  iintro ⟨H, H2, H3⟩
  isplitl [H3]; · iexact H3
  isplitl [H]; · iexact H
  iexact H2
omit [FloatOps F] in
theorem owesE_none (c : Dev nD) {i : ℕ} (h : i = 0 ∨ i = 7) : owesE (F := F) c (4 * i + 5) ⊢ owesE c (4 * i + 6) := by
  unfold owesE; rw [owed_yc_none c h]
omit [FloatOps F] in
theorem owesE_none' (c : Dev nD) {i : ℕ} (h : i = 7) : owesE (F := F) c (4 * i + 6) ⊢ owesE c (4 * i + 7) := by
  unfold owesE; rw [owed_xc_none c h]
theorem woSt_intro (c : Dev nD) (k : Fin 2) {i : ℕ} (h : i < 8) : woFlight w c k i ⊢ woSt w c k i := by rw [woSt_lt w c k h]
theorem woSt_end (c : Dev nD) (k : Fin 2) {i : ℕ} (h : ¬ i + 2 < 8) : woHas w c k i ⊢ woSt w c k (i + 2) := by
  rw [woSt_ge w c k h]; exact woHas_idle w c k i

variable (h0 : a0M.IsWhole) (h1 : a1M.IsWhole) (h2 : a2M.IsWhole) (h3 : woM.IsWhole) (h4 : xsM.IsWhole) (h5 : xrM.IsWhole)
  (h6 : ysM.IsWhole) (h7 : yrM.IsWhole) (h8 : smM.IsWhole) (h9 : yoM.IsWhole)

theorem part1_run (c : Dev nD) (j : Fin k0_t1_loop.trips) {Q : _ → sProp 𝕄} (v5 v6 v17 v19 v20 : BitVec 32) :
    known o w κ ιs ⊢ iprop(woFlight w c 0 (2 * j.val) -∗ acts o c -∗ anyv (F := F) xsM c -∗ xcSt (F := F) c (2 * j.val) -∗ owesE c (4 * (2 * j.val) + 4)
      -∗ dutyTok ER (xsC c) (2 * j.val) 0 -∗ reached ER (xsC c) (2 * j.val) -∗ dutyTok ER (xrC (xp c)) (2 * j.val) 0
      -∗ ((woHas w c 0 (2 * j.val) ∗ acts o c ∗ cred (tallyAt (xsC c) 0 NB) ∗ atPos ER (xcC c) (2 * j.val) ∅ 0 ∗ owesE c (4 * (2 * j.val) + 5))
        -∗ Q ⟨it j, Scalar.addi (Scalar.muli 2#32 (it j)) 0#32, Scalar.cmpi .sgt (it j) 0#32, Scalar.cmpi .sgt (it j) 0#32, ownv o w c (2 * j.val)⟩)
      -∗ wpc c (k0_part1 a0M h0 a1M h1 a2M h2 woM h3 xsM h4 xrM h5 ysM h6 yrM h7 smM h8 yoM h9 cc0_scratch7 cc0_scratch8 cc0_scratch9 cc0_scratch10 cc0_scratch11 cc0_scratch12 cc0_scratch13 cc0_scratch14 c v5 v6 v17 v19 v20 0#32 1#32 j) Q) := by
  have hj := trips_lt j
  rw [k0_part1_eq_skeleton]
  simp only [k0_part1_skel, semSignalWord, semWaitWord, Prog.lift, Prog.bind_op, Prog.bind_ret, Prog.pure_eq_ret]
  iintro #HI Hwo Ha Hxs Hxc HO Ht Hr Ht' Hk
  ihave #Hlev := (known_lev o w κ ιs) $$ HI
  iapply (woWait w c (j := 0) (i := 2 * j.val) (q := 4 * (2 * j.val) + 4) (by omega) rfl rfl) $$ Hlev Hwo HO
  iintro ⟨Hwo, HO⟩
  unfold woHas
  icases Hwo with ⟨Hwo, Hwo'⟩
  iapply (load_slot c (B := woB 0) rfl shapeCasts_wo') $$ Hwo
  iintro %v84 ⟨%h84, Hwo⟩
  obtain rfl : v84 = wo3 w c (2 * j.val) := of_shapeCast shapeCasts_wo' shapeCasts_wo h84
  unfold acts
  iapply (load_acts c) $$ Ha
  iintro Ha
  iapply (storeXs c (x := xval o w c (2 * j.val)) rfl) $$ Hxs
  iintro Hxs
  iapply (cut_if c (M := iprop(owesE c (4 * (2 * j.val) + 4) ∗ atPos ER (xcC c) (2 * j.val) ∅ 0 ∗ xdst (F := F) c (2 * j.val)))) $$ [HO Hxc]
  · isplit
    · iintro %h Hk
      have hpos := (later_iff j).mp h
      icases (xcSt_pos (F := F) c (i := 2 * j.val) (by omega)) $$ Hxc with ⟨Hxc, Hat⟩
      iapply (xcWait o w κ ιs c (i := 2 * j.val) (by omega) (by omega) (q := 4 * (2 * j.val) + 4) (by omega)) $$ HI Hxc HO Hat
      iexact Hk
    · iintro %h
      have hz : j.val = 0 := by
        by_contra hne
        exact h ((later_iff j).mpr (by omega))
      isplitl [HO]; · iexact HO
      iapply (xcSt_zero (F := F) c (i := 2 * j.val) (by omega)) $$ Hxc
  iintro ⟨HO, Hat, Hxd⟩
  iapply (xSend o w κ ιs c (dev_x c _ (k0_dev3_eq c)) (i := 2 * j.val) (by omega) rfl rfl rfl rfl) $$ HI Hxs Hxd HO Ht Hr Ht'
  iintro ⟨Hc, HO⟩
  iapply (load_acts c) $$ Ha
  iintro Ha
  iapply (ret_eq c (⟨it j, Scalar.addi (Scalar.muli 2#32 (it j)) 0#32, Scalar.cmpi .sgt (it j) 0#32, Scalar.cmpi .sgt (it j) 0#32, ownv o w c (2 * j.val)⟩
    : Σ' (_ : BitVec 32) (_ : BitVec 32) (_ : BitVec 1) (_ : BitVec 1), FVec F S1024x512 .f32) rfl)
  iapply Hk
  isplitl [Hwo Hwo']
  · isplitl [Hwo]; · iexact Hwo
    iexact Hwo'
  isplitl [Ha]; · iexact Ha
  isplitl [Hc]; · iexact Hc
  isplitl [Hat]; · iexact Hat
  iexact HO

theorem part2_run (c : Dev nD) (j : Fin k0_t1_loop.trips) {Q : _ → sProp 𝕄} (v2 v5 v6 v7 v20 v22 v74 : BitVec 32) :
    known o w κ ιs ⊢ iprop(owesE c (4 * (2 * j.val) + 5)
      -∗ (crYr (F := F) c 1 (2 * j.val) ∗ yOdd (F := F) c j.val ∗ dutyTok ER (ycC (yp c)) 0 (2 * j.val) ∗ reached ER (ycC (yp c)) 0)
      -∗ (anyv (F := F) yoM c ∗ outSt o w c (2 * j.val) (2 * j.val - 1) ∗ semVal ((c : Thread nD τ), .dma outS) 0)
      -∗ (cred (tallyAt (xsC c) 0 NB) ∗ atPos ER (xsC c) (2 * j.val) ∅ 0)
      -∗ (cred (tallyAt (xrC c) (4 * (2 * j.val) + 4) NB) ∗ atPos ER (xrC c) (2 * j.val) ∅ 0 ∗ dutyTok ER (xcC (xp c)) (2 * j.val) 0)
      -∗ anyv (F := F) smM c -∗ woHas w c 0 (2 * j.val)
      -∗ (ysSt (F := F) c 0 j.val ∗ crYc (F := F) c (2 * j.val) ∗ ycSt (F := F) c (2 * j.val - 2) ∗ yknow (F := F) (yp c) 0)
      -∗ (∀ z, (owesE c (4 * (2 * j.val) + 7) ∗ yOdd' (F := F) c j.val
            ∗ (anyv (F := F) yoM c ∗ outSt o w c (2 * j.val) (2 * j.val) ∗ semVal ((c : Thread nD τ), .dma outS) 0)
            ∗ (anyv (F := F) xsM c ∗ atPos ER (xsC c) (2 * j.val + 1) ∅ 0 ∗ reached ER (xsC c) (2 * j.val + 1))
            ∗ atPos ER (xrC c) (2 * j.val + 1) ∅ 0
            ∗ holds smM c (sumv o w c (2 * j.val)) ∗ woSt w c 0 (2 * j.val + 2)
            ∗ (holds (ysB 0) c (yval o w c (2 * j.val)) ∗ atPos ER (ysC c 0) j.val ∅ 0 ∗ reached ER (ysC c 0) j.val)
            ∗ ycSt (F := F) c (2 * j.val - 1) ∗ yknow (F := F) (yp c) (2 * j.val - 1))
        -∗ Q z)
      -∗ wpc c (k0_part2 a0M h0 a1M h1 a2M h2 woM h3 xsM h4 xrM h5 ysM h6 yrM h7 smM h8 yoM h9 cc0_scratch7 cc0_scratch8 cc0_scratch9 cc0_scratch10 cc0_scratch11 cc0_scratch12 cc0_scratch13 cc0_scratch14 c v2 v5 v6 v7 v20 v22 j (it j) v74 (Scalar.cmpi .sgt (it j) 0#32) (Scalar.cmpi .sgt (it j) 0#32) (ownv o w c (2 * j.val))) Q) := by
  have hj := trips_lt j
  rw [k0_part2_eq_skeleton]
  simp only [k0_part2_skel, semSignalWord, semWaitWord, Prog.lift, Prog.bind_op, Prog.bind_ret, Prog.pure_eq_ret]
  iintro #HI HO ⟨Hcr, Hodd, Hyt, #Hyr⟩ ⟨Hyo, Hout, Hv⟩ ⟨Hcs, Hxs⟩ ⟨Hcx, Hxr, Hxt⟩ Hsm Hwo ⟨Hys, Hcy, Hyc, #Hk0⟩ Hk
  ihave #Hlev := (known_lev o w κ ιs) $$ HI
  iapply (cut_if c (M := iprop(owesE c (4 * (2 * j.val) + 6) ∗ yOdd' (F := F) c j.val
    ∗ anyv (F := F) yoM c ∗ outSt o w c (2 * j.val) (2 * j.val) ∗ semVal ((c : Thread nD τ), .dma outS) 0))) $$ [HO Hcr Hodd Hyt Hyo Hout Hv]
  · isplit
    · iintro %h Hk
      have hpos := (cond2_iff j).mp h
      unfold yOdd
      icases Hodd with ⟨Hat, Hrd, #Hkn⟩
      ihave Hcr := (crYr_pos (F := F) c 1 (i := 2 * j.val) (by omega)) $$ Hcr
      iapply (yrWait o w κ ιs c (n := 2 * j.val - 1) (r := j.val - 1) (j := 1) (by show _ = _ + 1; omega) (by omega) (q := 4 * (2 * j.val) + 5) (by omega) rfl) $$ HI Hcr HO Hat
      iintro ⟨HO, Hat, #Hr, Hland⟩
      iapply (load_slot c (B := yrB 1) rfl shapeCasts_y') $$ Hland
      iintro %v253 ⟨%h253, Hland⟩
      obtain rfl : v253 = yval3 o w (yp c) (2 * j.val - 1) := of_yval o w h253
      iapply (storeF c (.inr rfl) (x := yout o w c (2 * j.val - 1)) rfl) $$ Hyo
      iintro Hyo
      ihave Hland := (holds_anyv _ _ _) $$ Hland
      imod (slotGive o w κ ιs c 1 (j.val - 1 + 1)) $$ HI Hrd Hland with ⟨Hrd, #Hrel⟩
      ihave #Hkn' := (yknow_odd (F := F) c hpos) $$ [Hkn Hrel Hr]
      · isplitr; · iexact Hkn
        isplitr; · iexact Hrel
        iexact Hr
      iapply (ycSignal o w κ ιs c (dev_y c _ (k0_dev4_eq c)) (i := 2 * j.val) (by omega) (by omega)) $$ HI HO Hyt Hkn' Hyr
      iintro HO
      iapply (outY o w c (n := 2 * j.val) (n' := 2 * j.val - 1) (by omega) (by omega) (q := 4 * (2 * j.val) + 6) (by omega)
        (out_off (by have := y_lt c; omega) (off5_eq c j hpos) rfl _ _) (out_off (by have := y_lt c; omega) (off5_eq c j hpos) rfl _ _)) $$ Hlev Hyo Hout Hv HO
      iintro ⟨Hyo, Hout, Hv, HO⟩
      iapply Hk
      isplitl [HO]; · iexact HO
      isplitl [Hat Hrd]
      · iapply (yOdd_intro (F := F) c hpos)
        isplitl [Hat]; · iexact Hat
        isplitl [Hrd]; · iexact Hrd
        iexact Hkn'
      isplitl [Hyo]; · iexact Hyo
      isplitl [Hout]; · iapply (outSt_eq o w c rfl (show 2 * j.val - 1 + 1 = 2 * j.val by omega)) $$ Hout
      iexact Hv
    · iintro %h
      have hz : j.val = 0 := by
        by_contra hne
        exact h ((cond2_iff j).mpr (by omega))
      isplitl [HO]; · iapply (owesE_none (F := F) c (i := 2 * j.val) (.inl (by omega))) $$ HO
      isplitl [Hodd]; · iapply (yOdd_zero (F := F) c hz) $$ Hodd
      isplitl [Hyo]; · iexact Hyo
      isplitl [Hout]; · iapply (outSt_eq o w c rfl (show 2 * j.val - 1 = 2 * j.val by omega)) $$ Hout
      iexact Hv
  iintro ⟨HO, Hodd, Hyo, Hout, Hv⟩
  iapply (xsWait o w κ ιs c (i := 2 * j.val) (by omega) (q := 4 * (2 * j.val) + 6) (by omega) rfl) $$ HI Hcs HO Hxs
  iintro ⟨HO, Hxs, #Hxsr, Hxsb⟩
  iapply (xrWait o w κ ιs c (i := 2 * j.val) (by omega) (q := 4 * (2 * j.val) + 6) (by omega) rfl) $$ HI Hcx HO Hxr
  iintro ⟨HO, Hxr, #Hxrr, Hxrb, #Hxcr⟩
  iapply (loadXr c) $$ Hxrb
  iintro Hxrb
  iapply (storeF c (.inl rfl) (x := sumv o w c (2 * j.val)) rfl) $$ Hsm
  iintro Hsm
  iapply (cut_if c (M := woSt w c 0 (2 * j.val + 2))) $$ [Hwo]
  · isplit
    · iintro %h Hk
      have hlt := (cond3_iff j).mp h
      ihave Hwo := (woHas_idle w c 0 (2 * j.val)) $$ Hwo
      iapply (woStart w c (j := 0) (i := 2 * j.val + 2) (wo_off c (by omega) (k0_off6_eq c j) (by omega) _ _) rfl rfl) $$ Hwo
      iintro Hwo
      iapply Hk
      iapply (woSt_intro w c 0 (i := 2 * j.val + 2) (by omega)) $$ Hwo
    · iintro %h
      have hge : ¬ j.val < 3 := fun hlt => h ((cond3_iff j).mpr hlt)
      iapply (woSt_end w c 0 (i := 2 * j.val) (by omega)) $$ Hwo
  iintro Hwo
  ihave Hxrb := (holds_anyv _ _ _) $$ Hxrb
  iapply (xcSignal o w κ ιs c (dev_x c _ (k0_dev5_eq c)) (i := 2 * j.val) (by omega)) $$ HI HO Hxt Hxrb Hxrr Hxcr
  iintro HO
  iapply (cut_if c (M := iprop(owesE c (4 * (2 * j.val) + 7) ∗ ysFree (F := F) c 0 j.val ∗ ycSt (F := F) c (2 * j.val - 1) ∗ yknow (F := F) (yp c) (2 * j.val - 1)))) $$ [HO Hys Hcy Hyc]
  · isplit
    · iintro %h Hk
      have hpos := (later_iff j).mp h
      icases (ysSt_pos (F := F) c 0 (r := j.val) (by omega)) $$ Hys with ⟨Hys, Hat⟩
      iapply (ysWait o w κ ιs c (r := j.val - 1) (j := 0) (by omega) (q := 4 * (2 * j.val) + 7) (by omega) rfl) $$ HI Hys HO Hat
      iintro ⟨HO, Hys⟩
      ihave Hcy := (crYc_pos (F := F) c (i := 2 * j.val) (by omega)) $$ Hcy
      iapply (ycWait o w κ ιs c (n := 2 * j.val - 2) (u := 4 * (2 * j.val) + 1) (q := 4 * (2 * j.val) + 7) (by omega) (by omega) (by omega)) $$ HI Hcy HO Hyc
      iintro ⟨HO, Hyc, #Hkn⟩
      iapply Hk
      isplitl [HO]; · iexact HO
      isplitl [Hys]; · iapply (ysFree_intro (F := F) c 0 (by omega)) $$ Hys
      isplitl [Hyc]; · iapply (ycSt_eq (F := F) c (show 2 * j.val - 2 + 1 = 2 * j.val - 1 by omega)) $$ Hyc
      iapply (yknow_mono (F := F) (yp c) (show 2 * j.val - 1 ≤ 2 * j.val - 2 + 1 by omega)) $$ Hkn
    · iintro %h
      have hz : j.val = 0 := by
        by_contra hne
        exact h ((later_iff j).mpr (by omega))
      isplitl [HO]; · iexact HO
      isplitl [Hys]; · iapply (ysSt_zero (F := F) c 0 hz) $$ Hys
      isplitl [Hyc]; · iapply (ycSt_eq (F := F) c (show 2 * j.val - 2 = 2 * j.val - 1 by omega)) $$ Hyc
      iapply (yknow_mono (F := F) (yp c) (show 2 * j.val - 1 ≤ 0 by omega)) $$ Hk0
  unfold ysFree
  iintro ⟨HO, ⟨Hys, Hysa, #Hysr⟩, Hyc, #Hkn⟩
  iapply (load_any c (B := ysB 0) rfl) $$ Hys
  iintro %v127 Hys
  iapply (store_slot c (B := ysB 0) rfl shapeCasts_y' (x := yval o w c (2 * j.val)) rfl) $$ Hys
  iintro Hys
  iapply (ret_intro c)
  iapply Hk
  isplitl [HO]; · iexact HO
  isplitl [Hodd]; · iexact Hodd
  isplitl [Hyo Hout Hv]
  · isplitl [Hyo]; · iexact Hyo
    isplitl [Hout]; · iexact Hout
    iexact Hv
  isplitl [Hxsb Hxs]
  · isplitl [Hxsb]; · iexact Hxsb
    isplitl [Hxs]; · iexact Hxs
    iexact Hxsr
  isplitl [Hxr]; · iexact Hxr
  isplitl [Hsm]; · iexact Hsm
  isplitl [Hwo]; · iexact Hwo
  isplitl [Hys Hysa]
  · isplitl [Hys]; · iexact Hys
    isplitl [Hysa]; · iexact Hysa
    iexact Hysr
  isplitl [Hyc]; · iexact Hyc
  iexact Hkn

end Parts

end Cert.Proof
-- ==== Proof.TripB.lean ====
/-
  The rest of a trip: parts 3 to 5 of the trip's program and what follows them.
-/
module

public import proofs.«01_k».proof.Proof.TripA

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

section Parts

variable (o : Dev nD → Vec F S2048x4096 .bf16) (w : Dev nD → Vec F S4096x8192 .f32)
variable (κ : GSem nD τ sig → ℕ) (ιs : Dev nD × Fin 2 → ℕ)

omit [FloatOps F] in
theorem owesE_eq (c : Dev nD) {p q : ℕ} (h : p = q) : owesE (F := F) c p ⊢ owesE c q := by subst h; exact .rfl

/-- The slot of the y landing buffer that holds even chunks, when chunk 2 r has been read: it is handed back, except in the last trip. -/
def yEven' (c : Dev nD) (r : ℕ) : sProp 𝕄 :=
  if r < 3 then iprop(readerAt ES (c, (0 : Fin 2)) (r + 2) ∗ yknow (F := F) c (2 * r + 1)) else anyv (F := F) (yrB 0) c

/-- The x landing buffer at the end of a trip: handed back, except in the last trip. -/
def xLast (c : Dev nD) (r : ℕ) : sProp 𝕄 := if r < 3 then iprop(emp) else anyv (F := F) xrM c

theorem yEven'_lt (c : Dev nD) {r : ℕ} (h : r < 3) : iprop(readerAt ES (c, (0 : Fin 2)) (r + 2) ∗ yknow (F := F) c (2 * r + 1)) ⊢ yEven' (F := F) c r := by
  unfold yEven'; rw [if_pos h]
theorem yEven'_ge (c : Dev nD) {r : ℕ} (h : ¬ r < 3) : anyv (F := F) (yrB 0) c ⊢ yEven' (F := F) c r := by
  unfold yEven'; rw [if_neg h]
theorem xLast_lt (c : Dev nD) {r : ℕ} (h : r < 3) : iprop(emp) ⊢ xLast (F := F) c r := by
  unfold xLast; rw [if_pos h]
theorem xLast_ge (c : Dev nD) {r : ℕ} (h : ¬ r < 3) : anyv (F := F) xrM c ⊢ xLast (F := F) c r := by
  unfold xLast; rw [if_neg h]

variable (h0 : a0M.IsWhole) (h1 : a1M.IsWhole) (h2 : a2M.IsWhole) (h3 : woM.IsWhole) (h4 : xsM.IsWhole) (h5 : xrM.IsWhole)
  (h6 : ysM.IsWhole) (h7 : yrM.IsWhole) (h8 : smM.IsWhole) (h9 : yoM.IsWhole)

theorem part3_run (c : Dev nD) (j : Fin k0_t1_loop.trips) {Q : _ → sProp 𝕄} (v7 v19 v20 v74 v131 : BitVec 32) :
    known o w κ ιs ⊢ iprop(owesE c (4 * (2 * j.val) + 7)
      -∗ (holds (ysB 0) c (yval o w c (2 * j.val)) ∗ reached ER (ysC c 0) j.val ∗ yknow (F := F) (yp c) (2 * j.val - 1) ∗ writeTok ES (yp c, (0 : Fin 2)) (j.val + 1)
            ∗ dutyTok ER (ysC c 0) j.val 0 ∗ dutyTok ER (yrC (yp c) 0) j.val 0)
      -∗ (holds smM c (sumv o w c (2 * j.val)) ∗ outSt o w c (2 * j.val) (2 * j.val) ∗ semVal ((c : Thread nD τ), .dma outS) 0)
      -∗ woFlight w c 1 (2 * j.val + 1) -∗ acts o c
      -∗ ((cred (tallyAt (ysC c 0) 0 NB) ∗ (anyv (F := F) smM c ∗ outSt o w c (2 * j.val + 1) (2 * j.val) ∗ semVal ((c : Thread nD τ), .dma outS) 0)
            ∗ woHas w c 1 (2 * j.val + 1) ∗ acts o c ∗ owesE c (4 * (2 * j.val + 1) + 4))
        -∗ Q ⟨Scalar.addi (Scalar.muli 2#32 (it j)) 1#32, Scalar.cmpi .sgt (it j) 0#32, k0_pay8 (wo3 w c (2 * j.val + 1)), k0_pay9 (othR o c), constant S1024x512 .f32 0x00000000#32⟩)
      -∗ wpc c (k0_part3 a0M h0 a1M h1 a2M h2 woM h3 xsM h4 xrM h5 ysM h6 yrM h7 smM h8 yoM h9 cc0_scratch7 cc0_scratch8 cc0_scratch9 cc0_scratch10 cc0_scratch11 cc0_scratch12 cc0_scratch13 cc0_scratch14 c v7 v19 v20 j (it j) v74 v131) Q) := by
  have hj := trips_lt j
  rw [k0_part3_eq_skeleton]
  simp only [k0_part3_skel, semSignalWord, semWaitWord, Prog.lift, Prog.bind_op, Prog.bind_ret, Prog.pure_eq_ret]
  iintro #HI HO ⟨Hys, Hyr, Hkn, Hwt, Ht, Ht'⟩ ⟨Hsm, Hout, Hv⟩ Hwo Ha Hk
  ihave #Hlev := (known_lev o w κ ιs) $$ HI
  iapply (ySend o w κ ιs c (dev_y c _ (k0_dev6_eq c)) (i := 2 * j.val) (r := j.val) (j := 0) (by show _ = _ + 0; omega) (by omega) rfl rfl rfl rfl) $$ HI Hys Hkn Hwt HO Ht Hyr Ht'
  iintro ⟨Hc, HO⟩
  iapply (outSum o w c (n := 2 * j.val) (n' := 2 * j.val) (by omega) (by omega) (q := 4 * (2 * j.val) + 8) (by omega)
    (out_off (by have := y_lt c; omega) (k0_off7_eq c j ⟨0, Nat.zero_lt_two⟩) (by dsimp only; omega) _ _)
    (out_off (by have := y_lt c; omega) (k0_off7_eq c j ⟨0, Nat.zero_lt_two⟩) (by dsimp only; omega) _ _)) $$ Hlev Hsm Hout Hv HO
  iintro ⟨Hsm, Hout, Hv, HO⟩
  iapply (woWait w c (j := 1) (i := 2 * j.val + 1) (q := 4 * (2 * j.val) + 8) (by omega) rfl rfl) $$ Hlev Hwo HO
  iintro ⟨Hwo, HO⟩
  unfold woHas
  icases Hwo with ⟨Hwo, Hwo'⟩
  iapply (load_slot c (B := woB 1) rfl shapeCasts_wo') $$ Hwo
  iintro %v84 ⟨%h84, Hwo⟩
  obtain rfl : v84 = wo3 w c (2 * j.val + 1) := of_shapeCast shapeCasts_wo' shapeCasts_wo h84
  unfold acts
  iapply (load_acts c) $$ Ha
  iintro Ha
  iapply (ret_eq c (⟨Scalar.addi (Scalar.muli 2#32 (it j)) 1#32, Scalar.cmpi .sgt (it j) 0#32, k0_pay8 (wo3 w c (2 * j.val + 1)), k0_pay9 (othR o c), constant S1024x512 .f32 0x00000000#32⟩
    : Σ' (_ : BitVec 32) (_ : BitVec 1) (_ : FVec F S4096x512 .bf16) (_ : FVec F S1024x4096 .bf16), FVec F S1024x512 .f32) rfl)
  iapply Hk
  isplitl [Hc]; · iexact Hc
  isplitl [Hsm Hout Hv]
  · isplitl [Hsm]; · iexact Hsm
    isplitl [Hout]; · iexact Hout
    iexact Hv
  isplitl [Hwo Hwo']
  · isplitl [Hwo]; · iexact Hwo
    iexact Hwo'
  isplitl [Ha]; · iexact Ha
  iapply (owesE_eq (F := F) c (by omega)) $$ HO

theorem part4_run (c : Dev nD) (j : Fin k0_t1_loop.trips) {Q : _ → sProp 𝕄} (v2 v5 v6 v7 v17 : BitVec 32) :
    known o w κ ιs ⊢ iprop(owesE c (4 * (2 * j.val + 1) + 4)
      -∗ (anyv (F := F) xsM c ∗ cred (tallyAt (xcC c) (4 * (2 * j.val + 1) + 2) 1) ∗ atPos ER (xcC c) (2 * j.val + 1 - 1) ∅ 0)
      -∗ (dutyTok ER (xsC c) (2 * j.val + 1) 0 ∗ reached ER (xsC c) (2 * j.val + 1) ∗ dutyTok ER (xrC (xp c)) (2 * j.val + 1) 0)
      -∗ acts o c -∗ (cred (tallyAt (yrC c 0) (4 * (2 * j.val) + 7) NB) ∗ atPos ER (yrC c 0) j.val ∅ 0) -∗ anyv (F := F) yoM c
      -∗ ((atPos ER (xcC c) (2 * j.val + 1) ∅ 0 ∗ cred (tallyAt (xsC c) 0 NB) ∗ acts o c
            ∗ (atPos ER (yrC c 0) (j.val + 1) ∅ 0 ∗ reached ER (yrC c 0) (j.val + 1) ∗ anyv (F := F) (yrB 0) c)
            ∗ holds yoM c (yout o w c (2 * j.val)) ∗ owesE c (4 * (2 * j.val + 1) + 5))
        -∗ Q ⟨ownv o w c (2 * j.val + 1), 3#32⟩)
      -∗ wpc c (k0_part4 a0M h0 a1M h1 a2M h2 woM h3 xsM h4 xrM h5 ysM h6 yrM h7 smM h8 yoM h9 cc0_scratch7 cc0_scratch8 cc0_scratch9 cc0_scratch10 cc0_scratch11 cc0_scratch12 cc0_scratch13 cc0_scratch14 c v2 v5 v6 v7 v17
          (k0_pay8 (wo3 w c (2 * j.val + 1))) (k0_pay9 (othR o c)) (constant S1024x512 .f32 0x00000000#32)) Q) := by
  have hj := trips_lt j
  rw [k0_part4_eq_skeleton]
  simp only [k0_part4_skel, semSignalWord, semWaitWord, Prog.lift, Prog.bind_op, Prog.bind_ret, Prog.pure_eq_ret]
  iintro #HI HO ⟨Hxs, Hxc, Hat⟩ ⟨Ht, Hr, Ht'⟩ Ha ⟨Hcy, Hyat⟩ Hyo Hk
  iapply (storeXs c (x := xval o w c (2 * j.val + 1)) rfl) $$ Hxs
  iintro Hxs
  iapply (xcWait o w κ ιs c (i := 2 * j.val + 1) (by omega) (by omega) (q := 4 * (2 * j.val + 1) + 4) (by omega)) $$ HI Hxc HO Hat
  iintro ⟨HO, Hat, Hxd⟩
  iapply (xSend o w κ ιs c (dev_x c _ (k0_dev7_eq c)) (i := 2 * j.val + 1) (by omega) rfl rfl rfl rfl) $$ HI Hxs Hxd HO Ht Hr Ht'
  iintro ⟨Hc, HO⟩
  unfold acts
  iapply (load_acts c) $$ Ha
  iintro Ha
  iapply (yrWait o w κ ιs c (n := 2 * j.val) (r := j.val) (j := 0) (by show _ = _ + 0; omega) (by omega) (q := 4 * (2 * j.val + 1) + 5) (by omega) rfl) $$ HI Hcy HO Hyat
  iintro ⟨HO, Hyat, Hyr, Hland⟩
  iapply (load_slot c (B := yrB 0) rfl shapeCasts_y') $$ Hland
  iintro %v253 ⟨%h253, Hland⟩
  obtain rfl : v253 = yval3 o w (yp c) (2 * j.val) := of_yval o w h253
  iapply (storeF c (.inr rfl) (x := yout o w c (2 * j.val)) rfl) $$ Hyo
  iintro Hyo
  iapply (ret_eq c (⟨ownv o w c (2 * j.val + 1), 3#32⟩ : Σ' (_ : FVec F S1024x512 .f32), BitVec 32) rfl)
  iapply Hk
  isplitl [Hat]; · iexact Hat
  isplitl [Hc]; · iexact Hc
  isplitl [Ha]; · iexact Ha
  isplitl [Hyat Hyr Hland]
  · isplitl [Hyat]; · iexact Hyat
    isplitl [Hyr]; · iexact Hyr
    iapply (holds_anyv _ _ _) $$ Hland
  isplitl [Hyo]; · iexact Hyo
  iexact HO

theorem part5_run (c : Dev nD) (j : Fin k0_t1_loop.trips) {Q : _ → sProp 𝕄} (v2 v5 v6 v7 v20 v22 v149 c3 : BitVec 32) :
    known o w κ ιs ⊢ iprop(owesE c (4 * (2 * j.val + 1) + 5)
      -∗ (anyv (F := F) (yrB 0) c ∗ readerAt ES (c, (0 : Fin 2)) (j.val + 1) ∗ yknow (F := F) c (2 * j.val) ∗ reached ER (yrC c 0) (j.val + 1)
            ∗ dutyTok ER (ycC (yp c)) 0 (2 * j.val + 1) ∗ reached ER (ycC (yp c)) 0)
      -∗ (holds yoM c (yout o w c (2 * j.val)) ∗ outSt o w c (2 * j.val + 1) (2 * j.val) ∗ semVal ((c : Thread nD τ), .dma outS) 0)
      -∗ (cred (tallyAt (xsC c) 0 NB) ∗ atPos ER (xsC c) (2 * j.val + 1) ∅ 0)
      -∗ (cred (tallyAt (xrC c) (4 * (2 * j.val + 1) + 4) NB) ∗ atPos ER (xrC c) (2 * j.val + 1) ∅ 0 ∗ dutyTok ER (xcC (xp c)) (2 * j.val + 1) 0)
      -∗ anyv (F := F) smM c -∗ woHas w c 1 (2 * j.val + 1)
      -∗ (ysSt (F := F) c 1 j.val ∗ crYc (F := F) c (2 * j.val + 1) ∗ ycSt (F := F) c (2 * j.val - 1) ∗ yknow (F := F) (yp c) (2 * j.val - 1))
      -∗ ((owesE c (4 * (2 * j.val + 1) + 7) ∗ yEven' (F := F) c j.val
            ∗ (anyv (F := F) yoM c ∗ outSt o w c (2 * j.val + 1) (2 * j.val + 1) ∗ semVal ((c : Thread nD τ), .dma outS) 0)
            ∗ (anyv (F := F) xsM c ∗ atPos ER (xsC c) (2 * j.val + 1 + 1) ∅ 0 ∗ reached ER (xsC c) (2 * j.val + 1 + 1))
            ∗ (atPos ER (xrC c) (2 * j.val + 1 + 1) ∅ 0 ∗ xLast (F := F) c j.val)
            ∗ holds smM c (sumv o w c (2 * j.val + 1)) ∗ woSt w c 1 (2 * j.val + 1 + 2)
            ∗ ysFree (F := F) c 1 j.val
            ∗ ycSt (F := F) c (2 * j.val) ∗ yknow (F := F) (yp c) (2 * j.val))
        -∗ Q (k0_pay15 (ownv o w c (2 * j.val + 1)) (xval o w (xp c) (2 * j.val + 1))))
      -∗ wpc c (k0_part5 a0M h0 a1M h1 a2M h2 woM h3 xsM h4 xrM h5 ysM h6 yrM h7 smM h8 yoM h9 cc0_scratch7 cc0_scratch8 cc0_scratch9 cc0_scratch10 cc0_scratch11 cc0_scratch12 cc0_scratch13 cc0_scratch14 c v2 v5 v6 v7 v20 v22 j (it j) v149 (Scalar.cmpi .sgt (it j) 0#32) (ownv o w c (2 * j.val + 1)) c3) Q) := by
  have hj := trips_lt j
  rw [k0_part5_eq_skeleton]
  simp only [k0_part5_skel, semSignalWord, semWaitWord, Prog.lift, Prog.bind_op, Prog.bind_ret, Prog.pure_eq_ret]
  iintro #HI HO ⟨Hland, Hrd, #Hkn, #Hr, Hyt, #Hyr⟩ ⟨Hyo, Hout, Hv⟩ ⟨Hcs, Hxs⟩ ⟨Hcx, Hxr, Hxt⟩ Hsm Hwo ⟨Hys, Hcy, Hyc, #Hk0⟩ Hk
  ihave #Hlev := (known_lev o w κ ιs) $$ HI
  iapply (cut_if c (M := iprop(owesE c (4 * (2 * j.val + 1) + 6) ∗ yEven' (F := F) c j.val))) $$ [HO Hland Hrd Hyt]
  · isplit
    · iintro %h Hk
      have hlt := (cond5_iff j).mp h
      imod (slotGive o w κ ιs c 0 (j.val + 1)) $$ HI Hrd Hland with ⟨Hrd, #Hrel⟩
      ihave #Hkn' := (yknow_even (F := F) c (r := j.val)) $$ [Hkn Hrel Hr]
      · isplitr; · iexact Hkn
        isplitr; · iexact Hrel
        iexact Hr
      iapply (ycSignal o w κ ιs c (dev_y c _ (k0_dev8_eq c)) (i := 2 * j.val + 1) (by omega) (by omega)) $$ HI HO Hyt Hkn' Hyr
      iintro HO
      iapply Hk
      isplitl [HO]; · iexact HO
      iapply (yEven'_lt (F := F) c hlt)
      isplitl [Hrd]; · iexact Hrd
      iexact Hkn'
    · iintro %h
      have hge : ¬ j.val < 3 := fun hlt => h ((cond5_iff j).mpr hlt)
      isplitl [HO]; · iapply (owesE_none (F := F) c (i := 2 * j.val + 1) (.inr (by omega))) $$ HO
      iapply (yEven'_ge (F := F) c hge) $$ Hland
  iintro ⟨HO, Heven⟩
  iapply (outY o w c (n := 2 * j.val + 1) (n' := 2 * j.val) (by omega) (by omega) (q := 4 * (2 * j.val + 1) + 6) (by omega)
    (out_off (by have := y_lt c; omega) (k0_off8_eq c j) (by have := y_lt c; omega) _ _)
    (out_off (by have := y_lt c; omega) (k0_off8_eq c j) (by have := y_lt c; omega) _ _)) $$ Hlev Hyo Hout Hv HO
  iintro ⟨Hyo, Hout, Hv, HO⟩
  iapply (xsWait o w κ ιs c (i := 2 * j.val + 1) (by omega) (q := 4 * (2 * j.val + 1) + 6) (by omega) rfl) $$ HI Hcs HO Hxs
  iintro ⟨HO, Hxs, #Hxsr, Hxsb⟩
  iapply (xrWait o w κ ιs c (i := 2 * j.val + 1) (by omega) (q := 4 * (2 * j.val + 1) + 6) (by omega) rfl) $$ HI Hcx HO Hxr
  iintro ⟨HO, Hxr, #Hxrr, Hxrb, #Hxcr⟩
  iapply (loadXr c) $$ Hxrb
  iintro Hxrb
  iapply (storeF c (.inl rfl) (x := sumv o w c (2 * j.val + 1)) rfl) $$ Hsm
  iintro Hsm
  iapply (cut_if c (M := woSt w c 1 (2 * j.val + 1 + 2))) $$ [Hwo]
  · isplit
    · iintro %h Hk
      have hlt := (cond6_iff j).mp h
      ihave Hwo := (woHas_idle w c 1 (2 * j.val + 1)) $$ Hwo
      iapply (woStart w c (j := 1) (i := 2 * j.val + 1 + 2) (wo_off c (by omega) (k0_off9_eq c j) (by omega) _ _) rfl rfl) $$ Hwo
      iintro Hwo
      iapply Hk
      iapply (woSt_intro w c 1 (i := 2 * j.val + 1 + 2) (by omega)) $$ Hwo
    · iintro %h
      have hge : ¬ j.val < 3 := fun hlt => h ((cond6_iff j).mpr hlt)
      iapply (woSt_end w c 1 (i := 2 * j.val + 1) (by omega)) $$ Hwo
  iintro Hwo
  ihave Hxrb := (holds_anyv _ _ _) $$ Hxrb
  iapply (cut_if c (M := iprop(owesE c (4 * (2 * j.val + 1) + 7) ∗ xLast (F := F) c j.val))) $$ [HO Hxt Hxrb]
  · isplit
    · iintro %h Hk
      have hlt := (cond7_iff j).mp h
      iapply (xcSignal o w κ ιs c (dev_x c _ (k0_dev9_eq c)) (i := 2 * j.val + 1) (by omega)) $$ HI HO Hxt Hxrb Hxrr Hxcr
      iintro HO
      iapply Hk
      isplitl [HO]; · iexact HO
      iapply (xLast_lt (F := F) c hlt)
      iempintro
    · iintro %h
      have hge : ¬ j.val < 3 := fun hlt => h ((cond7_iff j).mpr hlt)
      isplitl [HO]; · iapply (owesE_none' (F := F) c (i := 2 * j.val + 1) (by omega)) $$ HO
      iapply (xLast_ge (F := F) c hge) $$ Hxrb
  iintro ⟨HO, Hxl⟩
  iapply (cut_if c (M := iprop(owesE c (4 * (2 * j.val + 1) + 7) ∗ ysFree (F := F) c 1 j.val ∗ ycSt (F := F) c (2 * j.val) ∗ yknow (F := F) (yp c) (2 * j.val)))) $$ [HO Hys Hcy Hyc]
  · isplit
    · iintro %h Hk
      have hpos := (later_iff j).mp h
      icases (ysSt_pos (F := F) c 1 (r := j.val) (by omega)) $$ Hys with ⟨Hys, Hat⟩
      iapply (ysWait o w κ ιs c (r := j.val - 1) (j := 1) (by omega) (q := 4 * (2 * j.val + 1) + 7) (by omega) rfl) $$ HI Hys HO Hat
      iintro ⟨HO, Hys⟩
      ihave Hcy := (crYc_pos (F := F) c (i := 2 * j.val + 1) (by omega)) $$ Hcy
      iapply (ycWait o w κ ιs c (n := 2 * j.val - 1) (u := 4 * (2 * j.val + 1) + 1) (q := 4 * (2 * j.val + 1) + 7) (by omega) (by omega) (by omega)) $$ HI Hcy HO Hyc
      iintro ⟨HO, Hyc, #Hkn⟩
      iapply Hk
      isplitl [HO]; · iexact HO
      isplitl [Hys]; · iapply (ysFree_intro (F := F) c 1 (by omega)) $$ Hys
      isplitl [Hyc]; · iapply (ycSt_eq (F := F) c (show 2 * j.val - 1 + 1 = 2 * j.val by omega)) $$ Hyc
      iapply (yknow_mono (F := F) (yp c) (show 2 * j.val ≤ 2 * j.val - 1 + 1 by omega)) $$ Hkn
    · iintro %h
      have hz : j.val = 0 := by
        by_contra hne
        exact h ((later_iff j).mpr (by omega))
      isplitl [HO]; · iexact HO
      isplitl [Hys]; · iapply (ysSt_zero (F := F) c 1 hz) $$ Hys
      isplitl [Hyc]; · iapply (ycSt_eq (F := F) c (show 2 * j.val - 1 = 2 * j.val by omega)) $$ Hyc
      iapply (yknow_mono (F := F) (yp c) (show 2 * j.val ≤ 2 * j.val - 1 by omega)) $$ Hk0
  iintro ⟨HO, Hys, Hyc, #Hkn2⟩
  iapply (ret_intro c)
  iapply Hk
  isplitl [HO]; · iexact HO
  isplitl [Heven]; · iexact Heven
  isplitl [Hyo Hout Hv]
  · isplitl [Hyo]; · iexact Hyo
    isplitl [Hout]; · iexact Hout
    iexact Hv
  isplitl [Hxsb Hxs]
  · isplitl [Hxsb]; · iexact Hxsb
    isplitl [Hxs]; · iexact Hxs
    iexact Hxsr
  isplitl [Hxr Hxl]
  · isplitl [Hxr]; · iexact Hxr
    iexact Hxl
  isplitl [Hsm]; · iexact Hsm
  isplitl [Hwo]; · iexact Hwo
  isplitl [Hys]; · iexact Hys
  isplitl [Hyc]; · iexact Hyc
  iexact Hkn2

end Parts

end Cert.Proof
-- ==== Proof.Trip.lean ====
/-
  A whole trip of the loop, from what a device holds before it to what it holds after it.
-/
module

public import proofs.«01_k».proof.Proof.TripB

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

section Parts

variable (o : Dev nD → Vec F S2048x4096 .bf16) (w : Dev nD → Vec F S4096x8192 .f32)
variable (κ : GSem nD τ sig → ℕ) (ιs : Dev nD × Fin 2 → ℕ)

/-! ## The credits, place by place -/

/-- The credit of one place; the barrier's is used before the loop. -/
def crd (c : Dev nD) (q : ℕ) : sProp 𝕄 := if q = 1 then iprop(emp) else cred (due c q)
/-- The credits from place p on. -/
def creds (c : Dev nD) (p : ℕ) : sProp 𝕄 := BI.bigSep (Finset.Ico p 36) (crd (F := F) c)

omit [FloatOps F] in
theorem creds_step (c : Dev nD) {p p' : ℕ} (h : p < 36) (h' : p' = p + 1) : creds (F := F) c p ⊢ iprop(crd c p ∗ creds c p') := by
  subst h'
  unfold creds
  have e : Finset.Ico p 36 = insert p (Finset.Ico (p + 1) 36) := by
    ext x; simp only [Finset.mem_Ico, Finset.mem_insert]; omega
  rw [e, BI.bigSep_insert (by simp)]
  exact .rfl

omit [FloatOps F] in
theorem crd_yc (c : Dev nD) (i : ℕ) (hi : i < 8) : crd (F := F) c (4 * i + 1) ⊢ crYc c i := by
  unfold crd crYc
  by_cases h : i < 2
  · rw [if_pos h]; iintro -; iempintro
  · rw [if_neg h, if_neg (by omega)]
    unfold due
    rw [if_neg (by omega), if_neg (by omega), if_pos (by omega), if_pos (by omega)]

/-- The credit for the x credit that chunk i waits for. -/
def crXc (c : Dev nD) (i : ℕ) : sProp 𝕄 := if i = 0 then iprop(emp) else cred (tallyAt (xcC c) (4 * i + 2) 1)

omit [FloatOps F] in
theorem crd_xc (c : Dev nD) (i : ℕ) (hi : i < 8) : crd (F := F) c (4 * i + 2) ⊢ crXc c i := by
  unfold crd crXc
  by_cases h : i = 0
  · rw [if_pos h]; iintro -; iempintro
  · rw [if_neg h, if_neg (by omega)]
    unfold due
    rw [if_neg (by omega), if_neg (by omega), if_neg (by omega), if_pos (by omega), if_pos (by omega)]

omit [FloatOps F] in
theorem crd_yr (c : Dev nD) (i : ℕ) (k : Fin 2) (hk : k = if i % 2 = 0 then 1 else 0) : crd (F := F) c (4 * i + 3) ⊢ crYr c k i := by
  subst hk
  unfold crd crYr
  by_cases h : i = 0
  · rw [if_pos h]; iintro -; iempintro
  · rw [if_neg h, if_neg (by omega), show 4 * (i - 1) + 7 = 4 * i + 3 by omega]
    unfold due
    rw [if_neg (by omega), if_neg (by omega), if_neg (by omega), if_neg (by omega)]
    by_cases hi : i % 2 = 0
    · rw [if_neg (by omega), if_pos hi]
    · rw [if_pos (by omega), if_neg hi]

omit [FloatOps F] in
theorem crd_xr (c : Dev nD) (i : ℕ) : crd (F := F) c (4 * i + 4) ⊢ cred (tallyAt (xrC c) (4 * i + 4) NB) := by
  unfold crd
  rw [if_neg (by omega)]
  unfold due
  rw [if_neg (by omega), if_pos (by omega)]

omit [FloatOps F] in
/-- The credits of one step. -/
theorem creds_four (c : Dev nD) (i : ℕ) (hi : i < 8) (k : Fin 2) (hk : k = if i % 2 = 0 then 1 else 0) :
    creds (F := F) c (4 * i + 1) ⊢ iprop(crYc c i ∗ crXc c i ∗ crYr c k i ∗ cred (tallyAt (xrC c) (4 * i + 4) NB) ∗ creds c (4 * (i + 1) + 1)) := by
  iintro H
  icases (creds_step c (p' := 4 * i + 2) (by omega) rfl) $$ H with ⟨H1, H⟩
  icases (creds_step c (p' := 4 * i + 3) (by omega) rfl) $$ H with ⟨H2, H⟩
  icases (creds_step c (p' := 4 * i + 4) (by omega) rfl) $$ H with ⟨H3, H⟩
  icases (creds_step c (p' := 4 * (i + 1) + 1) (by omega) (by omega)) $$ H with ⟨H4, H⟩
  isplitl [H1]; · iapply (crd_yc c i hi) $$ H1
  isplitl [H2]; · iapply (crd_xc c i hi) $$ H2
  isplitl [H3]; · iapply (crd_yr c i k hk) $$ H3
  isplitl [H4]; · iapply (crd_xr c i) $$ H4
  iexact H

/-! ## The duties of one step, trip by trip -/

/-- What device c needs to pay the duties of chunk i, the chunk of trip r in slot k. -/
def ticket (c : Dev nD) (i r : ℕ) (k : Fin 2) : sProp 𝕄 :=
  iprop((dutyTok ER (xsC c) i 0 ∗ dutyTok ER (xrC (xp c)) i 0) ∗ dutyTok ER (xcC (xp c)) i 0 ∗ dutyTok ER (ycC (yp c)) 0 i
    ∗ (writeTok ES (yp c, k) (r + 1) ∗ dutyTok ER (ysC c k) r 0 ∗ dutyTok ER (yrC (yp c) k) r 0))
def tickets (c : Dev nD) (j : ℕ) : sProp 𝕄 := BI.bigSep (Finset.Ico j 4) (fun r => iprop(ticket (F := F) c (2 * r) r 0 ∗ ticket c (2 * r + 1) r 1))

omit [FloatOps F] in
theorem tickets_step (c : Dev nD) {j : ℕ} (h : j < 4) :
    tickets (F := F) c j ⊢ iprop((ticket (F := F) c (2 * j) j 0 ∗ ticket c (2 * j + 1) j 1) ∗ tickets c (j + 1)) := by
  unfold tickets
  have e : Finset.Ico j 4 = insert j (Finset.Ico (j + 1) 4) := by
    ext x; simp only [Finset.mem_Ico, Finset.mem_insert]; omega
  rw [e, BI.bigSep_insert (by simp)]
  exact .rfl

/-! ## Between two trips -/

/-- What is held of the x landing buffers: before the first trip the neighbour's, after the last its own. -/
def xTop (c : Dev nD) (j : ℕ) : sProp 𝕄 := if j = 0 then xdst (F := F) c 0 else if j = 4 then anyv (F := F) xrM c else iprop(emp)

theorem xTop_use (c : Dev nD) {j : ℕ} (h : j < 4) : iprop(xTop (F := F) c j ∗ crXc c (2 * j) ∗ atPos ER (xcC c) (2 * j - 1) ∅ 0) ⊢ xcSt c (2 * j) := by
  unfold xTop crXc xcSt
  by_cases h0 : j = 0
  · rw [if_pos h0, if_pos (show 2 * j = 0 by omega), if_pos (show 2 * j = 0 by omega)]
    iintro ⟨H, -, H'⟩
    isplitl [H]; · iexact H
    iexact H'
  · rw [if_neg h0, if_neg (show j ≠ 4 by omega), if_neg (show 2 * j ≠ 0 by omega), if_neg (show 2 * j ≠ 0 by omega)]
    iintro ⟨-, H, H'⟩
    isplitl [H]; · iexact H
    iexact H'

theorem xLast_top (c : Dev nD) {j : ℕ} (h : j < 4) : xLast (F := F) c j ⊢ xTop c (j + 1) := by
  unfold xLast xTop
  rw [if_neg (by omega : ¬ j + 1 = 0)]
  by_cases h0 : j < 3
  · rw [if_pos h0, if_neg (show ¬ j + 1 = 4 by omega)]
  · rw [if_neg h0, if_pos (show j + 1 = 4 by omega)]

/-- The slot of the y landing buffer that holds even chunks, before trip r. -/
def yEven (c : Dev nD) (r : ℕ) : sProp 𝕄 :=
  if r < 4 then iprop(readerAt ES (c, (0 : Fin 2)) (r + 1) ∗ yknow (F := F) c (2 * r - 1)) else anyv (F := F) (yrB 0) c

theorem yEven_use (c : Dev nD) {r : ℕ} (h : r < 4) : yEven (F := F) c r ⊢ iprop(readerAt ES (c, (0 : Fin 2)) (r + 1) ∗ yknow (F := F) c (2 * r - 1)) := by
  unfold yEven; rw [if_pos h]
theorem yEven_next (c : Dev nD) {r : ℕ} (h : r < 4) : yEven' (F := F) c r ⊢ yEven c (r + 1) := by
  unfold yEven' yEven
  by_cases h0 : r < 3
  · rw [if_pos h0, if_pos (show r + 1 < 4 by omega), show 2 * (r + 1) - 1 = 2 * r + 1 by omega]
  · rw [if_neg h0, if_neg (show ¬ r + 1 < 4 by omega)]

/-- What a device holds before trip j. -/
def inv (c : Dev nD) (j : ℕ) : sProp 𝕄 :=
  iprop((owesE c (4 * (2 * j) + 4) ∗ creds (F := F) c (4 * (2 * j) + 1) ∗ tickets (F := F) c j)
    ∗ (xTop (F := F) c j ∗ atPos ER (xcC c) (2 * j - 1) ∅ 0)
    ∗ (anyv (F := F) xsM c ∗ atPos ER (xsC c) (2 * j) ∅ 0 ∗ reached ER (xsC c) (2 * j))
    ∗ atPos ER (xrC c) (2 * j) ∅ 0
    ∗ (ysSt (F := F) c 0 j ∗ ysSt (F := F) c 1 j)
    ∗ (atPos ER (yrC c 0) j ∅ 0 ∗ yEven (F := F) c j)
    ∗ (atPos ER (yrC c 1) (j - 1) ∅ 0 ∗ readerAt ES (c, (1 : Fin 2)) (j - 1 + 1))
    ∗ (ycSt (F := F) c (2 * j - 2) ∗ yknow (F := F) (yp c) 0 ∗ reached ER (ycC (yp c)) 0)
    ∗ (woSt w c 0 (2 * j) ∗ woSt w c 1 (2 * j + 1))
    ∗ (anyv (F := F) smM c ∗ anyv (F := F) yoM c) ∗ semVal ((c : Thread nD τ), .dma outS) 0 ∗ acts o c ∗ outSt o w c (2 * j) (2 * j - 1))
theorem inv_open (c : Dev nD) (j : ℕ) : inv o w c j ⊢ iprop((owesE c (4 * (2 * j) + 4) ∗ creds (F := F) c (4 * (2 * j) + 1) ∗ tickets (F := F) c j)
    ∗ (xTop (F := F) c j ∗ atPos ER (xcC c) (2 * j - 1) ∅ 0)
    ∗ (anyv (F := F) xsM c ∗ atPos ER (xsC c) (2 * j) ∅ 0 ∗ reached ER (xsC c) (2 * j))
    ∗ atPos ER (xrC c) (2 * j) ∅ 0
    ∗ (ysSt (F := F) c 0 j ∗ ysSt (F := F) c 1 j)
    ∗ (atPos ER (yrC c 0) j ∅ 0 ∗ yEven (F := F) c j)
    ∗ (atPos ER (yrC c 1) (j - 1) ∅ 0 ∗ readerAt ES (c, (1 : Fin 2)) (j - 1 + 1))
    ∗ (ycSt (F := F) c (2 * j - 2) ∗ yknow (F := F) (yp c) 0 ∗ reached ER (ycC (yp c)) 0)
    ∗ (woSt w c 0 (2 * j) ∗ woSt w c 1 (2 * j + 1))
    ∗ (anyv (F := F) smM c ∗ anyv (F := F) yoM c) ∗ semVal ((c : Thread nD τ), .dma outS) 0 ∗ acts o c ∗ outSt o w c (2 * j) (2 * j - 1)) := .rfl

theorem inv_next (c : Dev nD) {j : ℕ} :
    iprop((owesE c (4 * (2 * j + 1) + 8) ∗ creds (F := F) c (4 * (2 * j + 1 + 1) + 1) ∗ tickets (F := F) c (j + 1))
    ∗ (xTop (F := F) c (j + 1) ∗ atPos ER (xcC c) (2 * j + 1) ∅ 0)
    ∗ (anyv (F := F) xsM c ∗ atPos ER (xsC c) (2 * j + 1 + 1) ∅ 0 ∗ reached ER (xsC c) (2 * j + 1 + 1))
    ∗ atPos ER (xrC c) (2 * j + 1 + 1) ∅ 0
    ∗ ((cred (tallyAt (ysC c 0) 0 NB) ∗ atPos ER (ysC c 0) j ∅ 0) ∗ (cred (tallyAt (ysC c 1) 0 NB) ∗ atPos ER (ysC c 1) j ∅ 0))
    ∗ (atPos ER (yrC c 0) (j + 1) ∅ 0 ∗ yEven (F := F) c (j + 1))
    ∗ (atPos ER (yrC c 1) j ∅ 0 ∗ readerAt ES (c, (1 : Fin 2)) (j + 1))
    ∗ (ycSt (F := F) c (2 * j) ∗ yknow (F := F) (yp c) 0 ∗ reached ER (ycC (yp c)) 0)
    ∗ (woSt w c 0 (2 * j + 2) ∗ woSt w c 1 (2 * j + 1 + 2))
    ∗ (anyv (F := F) smM c ∗ anyv (F := F) yoM c) ∗ semVal ((c : Thread nD τ), .dma outS) 0 ∗ acts o c ∗ outSt o w c (2 * j + 1 + 1) (2 * j + 1)) ⊢ inv o w c (j + 1) := by
  unfold inv ysSt
  rw [show 4 * (2 * (j + 1)) + 4 = 4 * (2 * j + 1) + 8 by omega, show 4 * (2 * (j + 1)) + 1 = 4 * (2 * j + 1 + 1) + 1 by omega,
    show 2 * (j + 1) - 1 = 2 * j + 1 by omega, show 2 * (j + 1) - 2 = 2 * j by omega, show 2 * (j + 1) + 1 = 2 * j + 1 + 2 by omega,
    show 2 * (j + 1) = 2 * j + 1 + 1 by omega, if_neg (Nat.succ_ne_zero j), if_neg (Nat.succ_ne_zero j), Nat.add_sub_cancel]

theorem crXc_pos (c : Dev nD) {i : ℕ} (h : i ≠ 0) : crXc (F := F) c i ⊢ cred (tallyAt (xcC c) (4 * i + 2) 1) := by unfold crXc; rw [if_neg h]
theorem woSt_use (c : Dev nD) (k : Fin 2) {i : ℕ} (h : i < 8) : woSt w c k i ⊢ woFlight w c k i := by rw [woSt_lt w c k h]

theorem bind_run {α β : Type} (c : Dev nD) {Q : α → sProp 𝕄} {p : KProg F β} {k : β → KProg F α} :
    wpc c p (fun a => wpc c (k a) Q) ⊢ wpc c (p >>= k) Q := by
  rw [show wpc c (p >>= k) Q = wpc c p (fun a => wpc c (k a) Q) from wp_bind _ _ _ _ _ _]

variable (h0 : a0M.IsWhole) (h1 : a1M.IsWhole) (h2 : a2M.IsWhole) (h3 : woM.IsWhole) (h4 : xsM.IsWhole) (h5 : xrM.IsWhole)
  (h6 : ysM.IsWhole) (h7 : yrM.IsWhole) (h8 : smM.IsWhole) (h9 : yoM.IsWhole)

theorem trip_run (c : Dev nD) (j : Fin k0_t1_loop.trips) (u : Unit) {Q : Unit → sProp 𝕄} (v2 v5 v6 v7 v17 v19 v20 v22 : BitVec 32) :
    known o w κ ιs ⊢ iprop(inv o w c j.val -∗ (inv o w c (j.val + 1) -∗ Q ⟨⟩)
      -∗ wpc c (k0_t1_body a0M h0 a1M h1 a2M h2 woM h3 xsM h4 xrM h5 ysM h6 yrM h7 smM h8 yoM h9 cc0_scratch7 cc0_scratch8 cc0_scratch9 cc0_scratch10 cc0_scratch11 cc0_scratch12 cc0_scratch13 cc0_scratch14 c v2 v5 v6 v7 v17 v19 v20 v22 j u) Q) := by
  have hj := trips_lt j
  simp only [k0_t1_body, Prog.lift, Prog.bind_op, Prog.bind_ret, Prog.pure_eq_ret]
  iintro #HI Hinv Hk
  icases (inv_open o w c j.val) $$ Hinv with ⟨⟨HO, Hcr, Htk⟩, ⟨Hxt, Hxa⟩, ⟨Hxs, Hxsa, #Hxsr⟩, Hxra, ⟨Hys0, Hys1⟩, ⟨Hy0, Hye⟩, ⟨Hy1, Hy1r⟩, ⟨Hyc, #Hk0, #Hycr⟩, ⟨Hwo0, Hwo1⟩, ⟨Hsm, Hyo⟩, Hv, Ha, Hout⟩
  icases (creds_four (F := F) c (2 * j.val) (by omega) 1 (by rw [if_pos (by omega)])) $$ Hcr with ⟨Cyc, Cxc, Cyr, Cxr, Hcr⟩
  icases (creds_four (F := F) c (2 * j.val + 1) (by omega) 0 (by rw [if_neg (by omega)])) $$ Hcr with ⟨Cyc', Cxc', Cyr', Cxr', Hcr⟩
  icases (tickets_step (F := F) c hj) $$ Htk with ⟨⟨Ht, Ht'⟩, Htk⟩
  unfold ticket
  icases Ht with ⟨⟨T1, T2⟩, T3, T4, T5⟩
  icases Ht' with ⟨⟨T1', T2'⟩, T3', T4', T5'⟩
  ihave Hxc := (xTop_use (F := F) c hj) $$ [Hxt Cxc Hxa]
  · isplitl [Hxt]; · iexact Hxt
    isplitl [Cxc]; · iexact Cxc
    iexact Hxa
  icases (yEven_use (F := F) c hj) $$ Hye with ⟨Hy0r, #Hkn⟩
  ihave Hwo0 := (woSt_use w c 0 (i := 2 * j.val) (by omega)) $$ Hwo0
  ihave Hwo1 := (woSt_use w c 1 (i := 2 * j.val + 1) (by omega)) $$ Hwo1
  iapply (bind_run c)
  iapply (part1_run o w κ ιs h0 h1 h2 h3 h4 h5 h6 h7 h8 h9 c j) $$ HI Hwo0 Ha Hxs Hxc HO T1 Hxsr T2
  iintro ⟨Hwo0, Ha, Cxs, Hxa, HO⟩
  iapply (bind_run c)
  iapply (part2_run o w κ ιs h0 h1 h2 h3 h4 h5 h6 h7 h8 h9 c j) $$ HI HO [Cyr Hy1 Hy1r T4] [Hyo Hout Hv] [Cxs Hxsa] [Cxr Hxra T3] Hsm Hwo0 [Hys0 Cyc Hyc]
  · isplitl [Cyr]; · iexact Cyr
    isplitl [Hy1 Hy1r]
    · unfold yOdd
      isplitl [Hy1]; · iexact Hy1
      isplitl [Hy1r]; · iexact Hy1r
      iexact Hkn
    isplitl [T4]; · iexact T4
    iexact Hycr
  · isplitl [Hyo]; · iexact Hyo
    isplitl [Hout]; · iexact Hout
    iexact Hv
  · isplitl [Cxs]; · iexact Cxs
    iexact Hxsa
  · isplitl [Cxr]; · iexact Cxr
    isplitl [Hxra]; · iexact Hxra
    iexact T3
  · isplitl [Hys0]; · iexact Hys0
    isplitl [Cyc]; · iexact Cyc
    isplitl [Hyc]; · iexact Hyc
    iexact Hk0
  unfold yOdd'
  iintro %z ⟨HO, ⟨Hy1, Hy1r, #Hkn1⟩, ⟨Hyo, Hout, Hv⟩, ⟨Hxs, Hxsa, #Hxsr1⟩, Hxra, Hsm, Hwo0, ⟨Hysb, Hysa, #Hysr⟩, Hyc, #Hky⟩
  iapply (bind_run c)
  icases T5 with ⟨T5, T6, T7⟩
  iapply (part3_run o w κ ιs h0 h1 h2 h3 h4 h5 h6 h7 h8 h9 c j) $$ HI HO [Hysb T5 T6 T7] [Hsm Hout Hv] Hwo1 Ha
  · isplitl [Hysb]; · iexact Hysb
    isplitr; · iexact Hysr
    isplitr; · iexact Hky
    isplitl [T5]; · iexact T5
    isplitl [T6]; · iexact T6
    iexact T7
  · isplitl [Hsm]; · iexact Hsm
    isplitl [Hout]; · iexact Hout
    iexact Hv
  iintro ⟨Cys, ⟨Hsm, Hout, Hv⟩, Hwo1, Ha, HO⟩
  iapply (bind_run c)
  iapply (part4_run o w κ ιs h0 h1 h2 h3 h4 h5 h6 h7 h8 h9 c j) $$ HI HO [Hxs Cxc' Hxa] [T1' T2'] Ha [Cyr' Hy0] Hyo
  · isplitl [Hxs]; · iexact Hxs
    isplitl [Cxc']; · iapply (crXc_pos (F := F) c (i := 2 * j.val + 1) (by omega)) $$ Cxc'
    iexact Hxa
  · isplitl [T1']; · iexact T1'
    isplitr; · iexact Hxsr1
    iexact T2'
  · isplitl [Cyr']; · iapply (crYr_pos (F := F) c 0 (i := 2 * j.val + 1) (by omega)) $$ Cyr'
    iexact Hy0
  iintro ⟨Hxa, Cxs, Ha, ⟨Hy0, #Hy0', Hyb⟩, Hyo, HO⟩
  iapply (bind_run c)
  iapply (part5_run o w κ ιs h0 h1 h2 h3 h4 h5 h6 h7 h8 h9 c j) $$ HI HO [Hyb Hy0r T4'] [Hyo Hout Hv] [Cxs Hxsa] [Cxr' Hxra T3'] Hsm Hwo1 [Hys1 Cyc' Hyc]
  · isplitl [Hyb]; · iexact Hyb
    isplitl [Hy0r]; · iexact Hy0r
    isplitr; · iexact Hkn1
    isplitr; · iexact Hy0'
    isplitl [T4']; · iexact T4'
    iexact Hycr
  · isplitl [Hyo]; · iexact Hyo
    isplitl [Hout]; · iexact Hout
    iexact Hv
  · isplitl [Cxs]; · iexact Cxs
    iexact Hxsa
  · isplitl [Cxr']; · iexact Cxr'
    isplitl [Hxra]; · iexact Hxra
    iexact T3'
  · isplitl [Hys1]; · iexact Hys1
    isplitl [Cyc']; · iexact Cyc'
    isplitl [Hyc]; · iexact Hyc
    iexact Hky
  unfold ysFree
  iintro ⟨HO, Hye, ⟨Hyo, Hout, Hv⟩, ⟨Hxs, Hxsa, #Hxsr2⟩, ⟨Hxra, Hxl⟩, Hsm, Hwo1, ⟨Hysb, Hysa', #Hysr'⟩, Hyc, #Hky'⟩
  ihave #Hlev := (known_lev o w κ ιs) $$ HI
  ihave #Hky2 := (yknow_mono (F := F) (yp c) (show 2 * j.val + 1 - 1 ≤ 2 * j.val by omega)) $$ Hky'
  iapply (load_any c (B := ysB 1) rfl) $$ Hysb
  iintro %v222 Hysb
  iapply (store_slot c (B := ysB 1) rfl shapeCasts_y' (x := yval o w c (2 * j.val + 1)) rfl) $$ Hysb
  iintro Hysb
  icases T5' with ⟨T5, T6, T7⟩
  iapply (ySend o w κ ιs c (dev_y c _ (k0_dev10_eq c)) (i := 2 * j.val + 1) (r := j.val) (j := 1) rfl (by omega) rfl rfl rfl rfl) $$ HI Hysb Hky2 T5 HO T6 Hysr' T7
  iintro ⟨Cys', HO⟩
  iapply (outSum o w c (n := 2 * j.val + 1) (n' := 2 * j.val + 1) (by omega) (by omega) (q := 4 * (2 * j.val + 1) + 8) (by omega)
    (out_off (by have := y_lt c; omega) (k0_off7_eq c j ⟨1, Nat.one_lt_two⟩) (by dsimp only; omega) _ _)
    (out_off (by have := y_lt c; omega) (k0_off7_eq c j ⟨1, Nat.one_lt_two⟩) (by dsimp only; omega) _ _)) $$ Hlev Hsm Hout Hv HO
  iintro ⟨Hsm, Hout, Hv, HO⟩
  iapply (ret_intro c)
  iapply Hk
  iapply (inv_next o w c (j := j.val))
  isplitl [HO Hcr Htk]
  · isplitl [HO]; · iexact HO
    isplitl [Hcr]; · iexact Hcr
    iexact Htk
  isplitl [Hxl Hxa]
  · isplitl [Hxl]; · iapply (xLast_top (F := F) c hj) $$ Hxl
    iexact Hxa
  isplitl [Hxs Hxsa]
  · isplitl [Hxs]; · iexact Hxs
    isplitl [Hxsa]; · iexact Hxsa
    iexact Hxsr2
  isplitl [Hxra]; · iexact Hxra
  isplitl [Cys Hysa Cys' Hysa']
  · isplitl [Cys Hysa]
    · isplitl [Cys]; · iexact Cys
      iexact Hysa
    · isplitl [Cys']; · iexact Cys'
      iexact Hysa'
  isplitl [Hy0 Hye]
  · isplitl [Hy0]; · iexact Hy0
    iapply (yEven_next (F := F) c hj) $$ Hye
  isplitl [Hy1 Hy1r]
  · isplitl [Hy1]; · iexact Hy1
    iexact Hy1r
  isplitl [Hyc]
  · isplitl [Hyc]; · iexact Hyc
    isplitr; · iexact Hk0
    iexact Hycr
  isplitl [Hwo0 Hwo1]
  · isplitl [Hwo0]; · iexact Hwo0
    iexact Hwo1
  isplitl [Hsm Hyo]
  · isplitl [Hsm]; · iexact Hsm
    iexact Hyo
  isplitl [Hv]; · iexact Hv
  isplitl [Ha]; · iexact Ha
  iexact Hout

end Parts

end Cert.Proof
-- ==== Proof.Body.lean ====
/-
  The whole program of a device: the barrier, the loop, the last chunk.
-/
module

public import proofs.«01_k».proof.Proof.Trip

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

section Parts

variable (o : Dev nD → Vec F S2048x4096 .bf16) (w : Dev nD → Vec F S4096x8192 .f32)
variable (κ : GSem nD τ sig → ℕ) (ιs : Dev nD × Fin 2 → ℕ)

/-! ## The whole program -/

/-- That every semaphore of a device stands at its first round. -/
def atFirst (c : Dev nD) : sProp 𝕄 :=
  iprop((reached ER (xsC c) 0 ∗ reached ER (xrC c) 0 ∗ reached ER (xcC c) 0 ∗ reached ER (ycC c) 0)
    ∗ (reached ER (ysC c 0) 0 ∗ reached ER (ysC c 1) 0) ∗ (reached ER (yrC c 0) 0 ∗ reached ER (yrC c 1) 0))

/-- A device's place at its own semaphores before anything has happened. -/
def places (c : Dev nD) : sProp 𝕄 :=
  iprop((atPos ER (xsC c) 0 ∅ 0 ∗ atPos ER (xrC c) 0 ∅ 0 ∗ atPos ER (xcC c) 0 ∅ 0 ∗ atPos ER (ycC c) 0 ∅ 0)
    ∗ (atPos ER (ysC c 0) 0 ∅ 0 ∗ atPos ER (ysC c 1) 0 ∅ 0) ∗ (atPos ER (yrC c 0) 0 ∅ 0 ∗ atPos ER (yrC c 1) 0 ∅ 0))

/-- Its part in the barrier. -/
def barSt (c : Dev nD) : sProp 𝕄 :=
  iprop(cred (tallyAt (barC c) 1 2) ∗ atPos ER (barC c) 0 ∅ 0
    ∗ (dutyTok ER (barC (xp c)) 0 0 ∗ reached ER (barC (xp c)) 0) ∗ (dutyTok ER (barC (yp c)) 0 1 ∗ reached ER (barC (yp c)) 0))

/-- The buffers of a device that the exchange goes through. -/
def bufs8 (c : Dev nD) : sProp 𝕄 :=
  iprop((anyv (F := F) xsM c ∗ anyv (F := F) xrM c) ∗ (anyv (F := F) (ysB 0) c ∗ anyv (F := F) (ysB 1) c) ∗ (anyv (F := F) (yrB 0) c ∗ anyv (F := F) (yrB 1) c)
    ∗ (anyv (F := F) smM c ∗ anyv (F := F) yoM c))

/-- The semaphores at zero once the rounds are over. -/
def sems0 (c : Dev nD) : sProp 𝕄 :=
  iprop((semVal (xsC c) 0 ∗ semVal (xrC c) 0 ∗ semVal (xcC c) 0 ∗ semVal (ycC c) 0)
    ∗ (semVal (ysC c 0) 0 ∗ semVal (ysC c 1) 0) ∗ (semVal (yrC c 0) 0 ∗ semVal (yrC c 1) 0))

theorem yknow_zero (c : Dev nD) :
    iprop(released ES (c, (0 : Fin 2)) (0 + 1) ∗ released ES (c, (1 : Fin 2)) (0 + 1) ∗ reached ER (yrC c 0) 0 ∗ reached ER (yrC c 1) 0) ⊢ yknow (F := F) c 0 := by
  unfold yknow
  iintro ⟨H, H2, H3, H4⟩
  isplitl [H H2]
  · isplitl [H]; · iexact H
    iexact H2
  · isplitl [H3]; · iexact H3
    iexact H4

omit [FloatOps F] in
theorem ycSt_zero (c : Dev nD) : atPos ER (ycC c) 0 ∅ 0 ⊢ ycSt (F := F) c 0 := by
  unfold ycSt
  rw [if_pos (by omega)]
  iintro H
  iexists ∅
  isplitl [H]; · iexact H
  rw [BI.bigSep_empty]
  iempintro

theorem inv_zero (c : Dev nD) :
    iprop((owesE c 4 ∗ creds (F := F) c 1 ∗ tickets (F := F) c 0)
    ∗ (xdst (F := F) c 0 ∗ atPos ER (xcC c) 0 ∅ 0)
    ∗ (anyv (F := F) xsM c ∗ atPos ER (xsC c) 0 ∅ 0 ∗ reached ER (xsC c) 0)
    ∗ atPos ER (xrC c) 0 ∅ 0
    ∗ (((anyv (F := F) (ysB 0) c ∗ reached ER (ysC c 0) 0) ∗ atPos ER (ysC c 0) 0 ∅ 0) ∗ ((anyv (F := F) (ysB 1) c ∗ reached ER (ysC c 1) 0) ∗ atPos ER (ysC c 1) 0 ∅ 0))
    ∗ (atPos ER (yrC c 0) 0 ∅ 0 ∗ (readerAt ES (c, (0 : Fin 2)) (0 + 1) ∗ yknow (F := F) c 0))
    ∗ (atPos ER (yrC c 1) 0 ∅ 0 ∗ readerAt ES (c, (1 : Fin 2)) (0 + 1))
    ∗ (ycSt (F := F) c 0 ∗ yknow (F := F) (yp c) 0 ∗ reached ER (ycC (yp c)) 0)
    ∗ (woFlight w c 0 0 ∗ woFlight w c 1 1)
    ∗ (anyv (F := F) smM c ∗ anyv (F := F) yoM c) ∗ semVal ((c : Thread nD τ), .dma outS) 0 ∗ acts o c ∗ outSt o w c 0 0) ⊢ inv o w c 0 := by
  unfold inv ysSt xTop yEven
  rw [if_pos rfl, if_pos rfl, if_pos rfl, if_pos (by omega), woSt_lt w c 0 (by omega), woSt_lt w c 1 (by omega)]

theorem inv_four (c : Dev nD) : inv o w c 4 ⊢ iprop((owesE c 36 ∗ cred (tallyAt (yrC c 1) (4 * 7 + 7) NB))
    ∗ (anyv (F := F) xrM c ∗ atPos ER (xcC c) 7 ∅ 0)
    ∗ (anyv (F := F) xsM c ∗ atPos ER (xsC c) 8 ∅ 0)
    ∗ atPos ER (xrC c) 8 ∅ 0
    ∗ ((cred (tallyAt (ysC c 0) 0 NB) ∗ atPos ER (ysC c 0) 3 ∅ 0) ∗ (cred (tallyAt (ysC c 1) 0 NB) ∗ atPos ER (ysC c 1) 3 ∅ 0))
    ∗ (atPos ER (yrC c 0) 4 ∅ 0 ∗ anyv (F := F) (yrB 0) c)
    ∗ atPos ER (yrC c 1) 3 ∅ 0
    ∗ atPos ER (ycC c) 1 ∅ 0
    ∗ (woIdle w c 0 ∗ woIdle w c 1)
    ∗ (anyv (F := F) smM c ∗ anyv (F := F) yoM c) ∗ semVal ((c : Thread nD τ), .dma outS) 0 ∗ acts o c ∗ outSt o w c 8 7) := by
  unfold inv ysSt xTop yEven ycSt
  rw [if_neg (by omega), if_pos rfl, if_neg (by omega), if_neg (by omega), if_neg (by omega), if_neg (by omega), woSt_ge w c 0 (by omega), woSt_ge w c 1 (by omega)]
  iintro ⟨⟨HO, Hcr, -⟩, Hx, ⟨Hxs, Hxsa, -⟩, Hxr, Hys, Hy0, ⟨Hy1, -⟩, ⟨Hyc, -⟩, Hwo, Hb, Hv, Ha, Hout⟩
  icases (creds_step c (p := 33) (p' := 34) (by omega) rfl) $$ Hcr with ⟨-, Hcr⟩
  icases (creds_step c (p' := 35) (by omega) rfl) $$ Hcr with ⟨-, Hcr⟩
  icases (creds_step c (p' := 36) (by omega) rfl) $$ Hcr with ⟨Hcr, -⟩
  isplitl [HO Hcr]
  · isplitl [HO]; · iexact HO
    ihave Hcr := (crd_yr (F := F) c 8 1 rfl) $$ Hcr
    iapply (crYr_pos (F := F) c 1 (i := 8) (by omega)) $$ Hcr
  isplitl [Hx]; · iexact Hx
  isplitl [Hxs Hxsa]
  · isplitl [Hxs]; · iexact Hxs
    iexact Hxsa
  isplitl [Hxr]; · iexact Hxr
  isplitl [Hys]; · iexact Hys
  isplitl [Hy0]; · iexact Hy0
  isplitl [Hy1]; · iexact Hy1
  isplitl [Hyc]; · iexact Hyc
  isplitl [Hwo]; · iexact Hwo
  isplitl [Hb]; · iexact Hb
  isplitl [Hv]; · iexact Hv
  isplitl [Ha]; · iexact Ha
  iexact Hout

/-- The rounds of a semaphore are over. -/
theorem close (c : Dev nD) {sm : SemLoc sig} {p : Part} (hp : partOf sm = p) (hne : p ≠ .other) {R : ℕ} (hR : ∀ r, R ≤ r → dutiesOf p r = ∅) :
    known o w κ ιs ⊢ iprop(atPos ER ((c : Thread nD τ), sm) R ∅ 0 -∗ |={Set.univ}=> semVal ((c : Thread nD τ), sm) 0) := by
  iintro #HI Hat
  ihave #Hcell := (known_cell o w κ ιs c (sm := sm) (hp ▸ hne)) $$ HI
  iapply (cell_close ER (kRd o w) (κ := κ ((c : Thread nD τ), sm)) (Set.mem_univ _) (fun h => h) (R := R)
    (fun r hr => by rw [duties_of o w c hp]; exact hR r hr))
  isplitr; · iexact Hcell
  iexact Hat

/-- A signal of the barrier. -/
theorem signal_bar {α : Type} (c d : Dev nD) {Q : α → sProp 𝕄} {s : Sem sig} (hs : s = barS) {t : ℕ} (ht : t ∈ dutiesOf .bar 0)
    (hr : τ.routes (c : Thread nD τ) (d : Thread nD τ) = true) {O O' : CellTallies nD τ sig ℕ} {W : Waits sig ℕ}
    (hO : O = O' + tallyAt (barC d) 1 1) {k : PUnit → KProg F α} :
    known o w κ ιs ⊢ iprop(owes (c : Thread nD τ) O W -∗ dutyTok ER (barC d) 0 t -∗ handed o w .bar d 0 t -∗ reached ER (barC d) 0
      -∗ (owes (c : Thread nD τ) O' W -∗ wpc c (k ⟨⟩) Q) -∗ wpc c (Prog.op (.semSignal (d : Thread nD τ) s 1) k) Q) := by
  subst hs
  iintro #HI HO Ht HX Hr Hk
  ihave #Hcell := (known_cell o w κ ιs d (sm := .reg barS) (by decide)) $$ HI
  iapply (Rounds.wp_signal 𝒱₀ ER (kRd o w) (c : Thread nD τ) none (dst := (d : Thread nD τ)) (sem := barS) (r := 0) (d := t)
    (κ := κ ((d : Thread nD τ), .reg barS)) (by rw [duties_of o w d partOf_bar]; exact ht) (by rw [amount_of o w d partOf_bar]; rfl) 1
    O' hO hr) $$ [HO Ht HX Hr]
  · isplitr; · iexact Hcell
    isplitl [HO]; · iexact HO
    isplitl [Ht]; · iexact Ht
    isplitl [HX]
    · rw [payload_of o w d partOf_bar]; iexact HX
    iexact Hr
  iintro HO
  iapply Hk $$ HO

theorem bar_payloads (c : Dev nD) :
    BI.bigSep (dutiesOf .bar 0) (fun d => (kRd o w).payload ((c : Thread nD τ), .reg barS) 0 d) ⊢ iprop(barX (F := F) c ∗ barY (F := F) c) := by
  rw [show dutiesOf .bar 0 = {0, 1} from rfl, BI.bigSep_insert (by decide), BI.bigSep_singleton,
    payload_of o w c partOf_bar, payload_of o w c partOf_bar]
  exact .rfl

/-- The wait of the barrier, for both neighbours. -/
theorem wait_bar {α : Type} (c : Dev nD) {Q : α → sProp 𝕄} {s : Sem sig} (hs : s = barS) {W : Waits sig ℕ} {k : PUnit → KProg F α} :
    known o w κ ιs ⊢ iprop(cred (tallyAt (barC c) 1 2) -∗ owes (c : Thread nD τ) (owed c 4) W -∗ atPos ER (barC c) 0 ∅ 0
      -∗ ((owesE c 4 ∗ atPos ER (barC c) 1 ∅ 0 ∗ barX (F := F) c ∗ barY (F := F) c) -∗ wpc c (k ⟨⟩) Q) -∗ wpc c (Prog.op (.semWait s 2) k) Q) := by
  subst hs
  unfold owesE
  iintro #HI Hc HO Hat Hk
  ihave #Hcell := (known_cell o w κ ιs c (sm := .reg barS) (by decide)) $$ HI
  ihave #Hlev := (known_lev o w κ ιs) $$ HI
  iapply (Rounds.wp_wait_rest_token 𝒱₀ ER (kRd o w) (c : Thread nD τ) none (κ := κ ((c : Thread nD τ), .reg barS))
    (wpE_semWait_eq 𝒱₀ (c : Thread nD τ) none Set.univ) (Set.mem_univ _) 1 (O := owed c 4) (R := 0) (m := 0) (T := ∅)
    (by rw [expect_of o w c partOf_bar]; rfl)) $$ [Hc HO Hat]
  · isplitr; · iexact Hcell
    isplitl [Hc]; · iexact Hc
    isplitl [HO]; · iexact HO
    isplitr
    · iapply (mayWait c (.reg barS) (show 1 < 4 by omega) (by omega)) $$ Hlev
    iexact Hat
  rw [Finset.sdiff_empty, duties_of o w c partOf_bar]
  iintro ⟨HO, Hat, -, HP⟩
  icases (bar_payloads o w c) $$ HP with ⟨HX, HY⟩
  iapply Hk
  isplitl [HO]; · iexists _; iexact HO
  isplitl [Hat]; · iexact Hat
  isplitl [HX]; · iexact HX
  iexact HY

variable (h0 : a0M.IsWhole) (h1 : a1M.IsWhole) (h2 : a2M.IsWhole) (h3 : woM.IsWhole) (h4 : xsM.IsWhole) (h5 : xrM.IsWhole)
  (h6 : ysM.IsWhole) (h7 : yrM.IsWhole) (h8 : smM.IsWhole) (h9 : yoM.IsWhole)

theorem part6_run (c : Dev nD) {Q : _ → sProp 𝕄} :
    known o w κ ιs ⊢ iprop(owesE c 1 -∗ barSt (F := F) c -∗ barX (F := F) (xp c) -∗ barY (F := F) (yp c)
      -∗ (∀ v2 v5 v6 v7 v17 v19 v20 v22, (owesE c 4 ∗ atPos ER (barC c) 1 ∅ 0 ∗ barX (F := F) c ∗ barY (F := F) c) -∗ Q ⟨c, v2, v5, v6, v7, v17, v19, v20, v22⟩)
      -∗ wpc c (k0_part6 a0M h0 a1M h1 a2M h2 woM h3 xsM h4 xrM h5 ysM h6 yrM h7 smM h8 yoM h9 cc0_scratch7 cc0_scratch8 cc0_scratch9 cc0_scratch10 cc0_scratch11 cc0_scratch12 cc0_scratch13 cc0_scratch14) Q) := by
  rw [k0_part6_eq_skeleton]
  simp only [k0_part6_skel, semSignalWord, semWaitWord, Prog.lift, Prog.bind_op, Prog.bind_ret, Prog.pure_eq_ret, wp_deviceId]
  rw [show owesE (F := F) c 1 = iprop(∃ W, owes (c : Thread nD τ) (owed c 1) W) from rfl]
  unfold barSt
  iintro #HI ⟨%W, HO⟩ ⟨Hc, Hat, ⟨Ht, Hr⟩, ⟨Ht', Hr'⟩⟩ HX HY Hk
  have hd1 : k0_dev1 c < nD := by rw [k0_dev1_eq]; have h : c.val < 4 := c.isLt; show _ < 4; omega
  have hd2 : k0_dev2 c < nD := by rw [k0_dev2_eq]; have h : c.val < 4 := c.isLt; show _ < 4; omega
  have e1 := dev_x c hd1 (k0_dev1_eq c)
  have e2 := dev_y c hd2 (k0_dev2_eq c)
  simp only [e1, e2]
  iapply (signal_bar o w κ ιs c (xp c) rfl (t := 0) (by decide) (routes_xp c) (by rw [owed_bar c, add_right_comm])) $$ HI HO Ht [HX] Hr
  · unfold handed; rw [if_pos rfl]; iexact HX
  iintro HO
  iapply (signal_bar o w κ ιs c (yp c) rfl (t := 1) (by decide) (routes_yp c) rfl) $$ HI HO Ht' [HY] Hr'
  · unfold handed; rw [if_neg (by omega)]; iexact HY
  iintro HO
  iapply (wait_bar o w κ ιs c rfl) $$ HI Hc HO Hat
  iintro ⟨HO, Hat, HX, HY⟩
  iapply (ret_intro c)
  iapply Hk
  isplitl [HO]; · iexact HO
  isplitl [Hat]; · iexact Hat
  isplitl [HX]; · iexact HX
  iexact HY

theorem loop_run {α : Type} (c : Dev nD) {Q : α → sProp 𝕄} {kk : Unit → KProg F α} (v2 v5 v6 v7 v17 v19 v20 v22 : BitVec 32) :
    known o w κ ιs ⊢ iprop(inv o w c 0 -∗ (inv o w c 4 -∗ wpc c (kk ⟨⟩) Q)
      -∗ wpc c (Scf.Loop.for k0_t1_loop k0_t1_ok ⟨⟩ (k0_t1_body a0M h0 a1M h1 a2M h2 woM h3 xsM h4 xrM h5 ysM h6 yrM h7 smM h8 yoM h9 cc0_scratch7 cc0_scratch8 cc0_scratch9 cc0_scratch10 cc0_scratch11 cc0_scratch12 cc0_scratch13 cc0_scratch14 c v2 v5 v6 v7 v17 v19 v20 v22) >>= kk) Q) := by
  have e : k0_t1_loop.trips = 4 := by decide
  have H := Scf.wp_for_bind frame (wpE (defs₀ (F := F)) 𝒱₀ (c : Thread nD τ) none) Set.univ k0_t1_loop.lb k0_t1_loop.ub k0_t1_loop.st k0_t1_ok ()
    (k0_t1_body a0M h0 a1M h1 a2M h2 woM h3 xsM h4 xrM h5 ysM h6 yrM h7 smM h8 yoM h9 cc0_scratch7 cc0_scratch8 cc0_scratch9 cc0_scratch10 cc0_scratch11 cc0_scratch12 cc0_scratch13 cc0_scratch14 c v2 v5 v6 v7 v17 v19 v20 v22)
    (fun k _ => iprop(known o w κ ιs ∗ inv o w c k)) (fun k acc => by
      iintro ⟨#HI, Hinv⟩
      iapply (trip_run o w κ ιs h0 h1 h2 h3 h4 h5 h6 h7 h8 h9 c k acc) $$ HI Hinv
      iintro Hinv
      isplitr; · iexact HI
      iexact Hinv) (kk := kk) (Q := Q)
  rw [show Scf.trips k0_t1_loop.lb k0_t1_loop.ub k0_t1_loop.st = 4 from e] at H
  iintro #HI Hinv Hk
  iapply H $$ [Hinv]
  · isplitr; · iexact HI
    iexact Hinv
  iintro %acc ⟨-, Hinv⟩
  iapply Hk $$ Hinv

/-- What a device has before the program: its debts and credits, its places, its buffers. -/
def startSt (c : Dev nD) : sProp 𝕄 :=
  iprop((owesE c 1 ∗ creds (F := F) c 1 ∗ tickets (F := F) c 0) ∗ barSt (F := F) c ∗ places (F := F) c ∗ atFirst (F := F) c
    ∗ (readerAt ES (c, (0 : Fin 2)) 0 ∗ readerAt ES (c, (1 : Fin 2)) 0) ∗ bufs8 (F := F) c ∗ (woIdle w c 0 ∗ woIdle w c 1)
    ∗ semVal ((c : Thread nD τ), .dma outS) 0 ∗ acts o c ∗ outSt o w c 0 0)

/-- What it has after it: no debts, every semaphore at zero, the result written. -/
def doneSt (c : Dev nD) : sProp 𝕄 :=
  iprop(owesE c 36 ∗ sems0 (F := F) c ∗ semVal (barC c) 0 ∗ bufs8 (F := F) c ∗ (woIdle w c 0 ∗ woIdle w c 1)
    ∗ semVal ((c : Thread nD τ), .dma outS) 0 ∗ acts o c ∗ outSt o w c 8 8)

theorem part7_run (c : Dev nD) {Q : BitVec 32 → sProp 𝕄} (v2 v5 v6 v7 v17 v19 v20 v22 : BitVec 32) :
    known o w κ ιs ⊢ iprop((woIdle w c 0 ∗ woIdle w c 1) -∗ (woFlight w c 0 0 ∗ woFlight w c 1 1 -∗ inv o w c 0)
      -∗ (∀ z, ((owesE c 36 ∗ atPos ER (yrC c 1) 4 ∅ 0 ∗ anyv (F := F) (yrB 1) c ∗ holds yoM c (yout o w c 7))
        ∗ (anyv (F := F) xrM c ∗ atPos ER (xcC c) 7 ∅ 0)
        ∗ (anyv (F := F) xsM c ∗ atPos ER (xsC c) 8 ∅ 0)
        ∗ atPos ER (xrC c) 8 ∅ 0
        ∗ ((cred (tallyAt (ysC c 0) 0 NB) ∗ atPos ER (ysC c 0) 3 ∅ 0) ∗ (cred (tallyAt (ysC c 1) 0 NB) ∗ atPos ER (ysC c 1) 3 ∅ 0))
        ∗ (atPos ER (yrC c 0) 4 ∅ 0 ∗ anyv (F := F) (yrB 0) c)
        ∗ atPos ER (ycC c) 1 ∅ 0
        ∗ (woIdle w c 0 ∗ woIdle w c 1)
        ∗ anyv (F := F) smM c ∗ semVal ((c : Thread nD τ), .dma outS) 0 ∗ acts o c ∗ outSt o w c 8 7) -∗ Q z)
      -∗ wpc c (k0_part7 a0M h0 a1M h1 a2M h2 woM h3 xsM h4 xrM h5 ysM h6 yrM h7 smM h8 yoM h9 cc0_scratch7 cc0_scratch8 cc0_scratch9 cc0_scratch10 cc0_scratch11 cc0_scratch12 cc0_scratch13 cc0_scratch14 c v2 v5 v6 v7 v17 v19 v20 v22) Q) := by
  rw [k0_part7_eq_skeleton]
  simp only [k0_part7_skel, Prog.lift, Prog.bind_op, Prog.bind_ret, Prog.pure_eq_ret]
  iintro #HI ⟨Hw0, Hw1⟩ Hinv Hk
  iapply (woStart w c (j := 0) (i := 0) (wo_off c (by omega) (k0_off1_eq c ⟨0, Nat.zero_lt_two⟩) (by dsimp only; try omega) _ _) rfl rfl) $$ Hw0
  iintro Hw0
  iapply (woStart w c (j := 1) (i := 1) (wo_off c (by omega) (k0_off1_eq c ⟨1, Nat.one_lt_two⟩) (by dsimp only; try omega) _ _) rfl rfl) $$ Hw1
  iintro Hw1
  iapply (loop_run o w κ ιs h0 h1 h2 h3 h4 h5 h6 h7 h8 h9 c) $$ HI [Hw0 Hw1 Hinv]
  · iapply Hinv
    isplitl [Hw0]; · iexact Hw0
    iexact Hw1
  iintro Hinv
  icases (inv_four o w c) $$ Hinv with ⟨⟨HO, Hcr⟩, Hx, Hxs, Hxr, Hys, Hy0, Hy1, Hyc, Hwo, ⟨Hsm, Hyo⟩, Hv, Ha, Hout⟩
  iapply (yrWait o w κ ιs c (n := 7) (r := 3) (j := 1) rfl (by omega) (q := 36) (by omega) rfl) $$ HI Hcr HO Hy1
  iintro ⟨HO, Hat, -, Hland⟩
  iapply (load_slot c (B := yrB 1) rfl shapeCasts_y') $$ Hland
  iintro %v253 ⟨%h253, Hland⟩
  obtain rfl : v253 = yval3 o w (yp c) 7 := of_yval o w h253
  iapply (storeF c (.inr rfl) (x := yout o w c 7) rfl) $$ Hyo
  iintro Hyo
  ihave Hland := (holds_anyv _ _ _) $$ Hland
  iapply (ret_intro c)
  iapply Hk
  isplitl [HO Hat Hland Hyo]
  · isplitl [HO]; · iexact HO
    isplitl [Hat]; · iexact Hat
    isplitl [Hland]; · iexact Hland
    iexact Hyo
  isplitl [Hx]; · iexact Hx
  isplitl [Hxs]; · iexact Hxs
  isplitl [Hxr]; · iexact Hxr
  isplitl [Hys]; · iexact Hys
  isplitl [Hy0]; · iexact Hy0
  isplitl [Hyc]; · iexact Hyc
  isplitl [Hwo]; · iexact Hwo
  isplitl [Hsm]; · iexact Hsm
  isplitl [Hv]; · iexact Hv
  isplitl [Ha]; · iexact Ha
  iexact Hout

theorem body_run (c : Dev nD) {Q : PUnit → sProp 𝕄} :
    known o w κ ιs ⊢ iprop(startSt o w c -∗ (doneSt o w c -∗ Q ⟨⟩)
      -∗ wpc c (cc0_body a0M h0 a1M h1 a2M h2 woM h3 xsM h4 xrM h5 ysM h6 yrM h7 smM h8 yoM h9 cc0_scratch7 cc0_scratch8 cc0_scratch9 cc0_scratch10 cc0_scratch11 cc0_scratch12 cc0_scratch13 cc0_scratch14) Q) := by
  rw [cc0_body_eq_skeleton]
  simp only [cc0_body_skel, Prog.lift, Prog.bind_op, Prog.bind_ret, Prog.pure_eq_ret]
  unfold startSt bufs8 places atFirst
  iintro #HI ⟨⟨HO, Hcr, Htk⟩, Hbar, ⟨⟨Pxs, Pxr, Pxc, Pyc⟩, ⟨Pys0, Pys1⟩, Pyr0, Pyr1⟩, ⟨⟨#Rxs, #Rxr, #Rxc, #Ryc⟩, ⟨#Rys0, #Rys1⟩, #Ryr0, #Ryr1⟩, ⟨Hr0, Hr1⟩,
    ⟨⟨Bxs, Bxr⟩, ⟨Bys0, Bys1⟩, ⟨Byr0, Byr1⟩, Bsm, Byo⟩, Hwo, Hv, Ha, Hout⟩ Hk
  ihave #Hlev := (known_lev o w κ ιs) $$ HI
  imod (slotGive o w κ ιs c 0 0) $$ HI Hr0 Byr0 with ⟨Hr0, #Hrel0⟩
  imod (slotGive o w κ ιs c 1 0) $$ HI Hr1 Byr1 with ⟨Hr1, #Hrel1⟩
  ihave #Hkn := (yknow_zero (F := F) c) $$ []
  · isplitr; · iexact Hrel0
    isplitr; · iexact Hrel1
    isplitr; · iexact Ryr0
    iexact Ryr1
  iapply (bind_run c)
  iapply (part6_run o w κ ιs h0 h1 h2 h3 h4 h5 h6 h7 h8 h9 c) $$ HI HO Hbar [Bxr] []
  · unfold barX
    rw [xp_xp]
    isplitl [Bxr]; · iexact Bxr
    isplitr; · iexact Rxr
    iexact Rxc
  · unfold barY
    rw [yp_yp]
    isplitr; · iexact Hkn
    iexact Ryc
  unfold barX barY
  iintro %v2 %v5 %v6 %v7 %v17 %v19 %v20 %v22 ⟨HO, Pbar, ⟨Bx, #Rx, #Rx'⟩, #Ky, #Ry⟩
  iapply (bind_run c)
  iapply (part7_run o w κ ιs h0 h1 h2 h3 h4 h5 h6 h7 h8 h9 c) $$ HI Hwo [HO Hcr Htk Bx Pxc Bxs Pxs Pxr Bys0 Bys1 Pys0 Pys1 Pyr0 Pyr1 Hr0 Hr1 Pyc Bsm Byo Hv Ha Hout]
  · iintro Hwo
    iapply (inv_zero o w c)
    isplitl [HO Hcr Htk]
    · isplitl [HO]; · iexact HO
      isplitl [Hcr]; · iexact Hcr
      iexact Htk
    isplitl [Bx Pxc]
    · isplitl [Bx]
      · unfold xdst
        isplitl [Bx]; · iexact Bx
        isplitr; · iexact Rx
        iexact Rxc
      iexact Pxc
    isplitl [Bxs Pxs]
    · isplitl [Bxs]; · iexact Bxs
      isplitl [Pxs]; · iexact Pxs
      iexact Rxs
    isplitl [Pxr]; · iexact Pxr
    isplitl [Bys0 Pys0 Bys1 Pys1]
    · isplitl [Bys0 Pys0]
      · isplitl [Bys0]
        · isplitl [Bys0]; · iexact Bys0
          iexact Rys0
        iexact Pys0
      · isplitl [Bys1]
        · isplitl [Bys1]; · iexact Bys1
          iexact Rys1
        iexact Pys1
    isplitl [Pyr0 Hr0]
    · isplitl [Pyr0]; · iexact Pyr0
      isplitl [Hr0]; · iexact Hr0
      iexact Hkn
    isplitl [Pyr1 Hr1]
    · isplitl [Pyr1]; · iexact Pyr1
      iexact Hr1
    isplitl [Pyc]
    · isplitl [Pyc]
      · iapply (ycSt_zero (F := F) c) $$ Pyc
      isplitr; · iexact Ky
      iexact Ry
    isplitl [Hwo]; · iexact Hwo
    isplitl [Bsm Byo]
    · isplitl [Bsm]; · iexact Bsm
      iexact Byo
    isplitl [Hv]; · iexact Hv
    isplitl [Ha]; · iexact Ha
    iexact Hout
  iintro %z ⟨⟨HO, Pyr1, Byr1, Hyo⟩, ⟨Bxr, Pxc⟩, ⟨Bxs, Pxs⟩, Pxr, ⟨⟨Cys0, Pys0⟩, Cys1, Pys1⟩, ⟨Pyr0, Byr0⟩, Pyc, Hwo, Bsm, Hv, Ha, Hout⟩
  iapply (outY o w c (n := 8) (n' := 7) (by omega) (by omega) (q := 36) (by omega)
    (out_off (by have := y_lt c; omega) (k0_off10_eq c) (by have := y_lt c; omega) _ _)
    (out_off (by have := y_lt c; omega) (k0_off10_eq c) (by have := y_lt c; omega) _ _)) $$ Hlev Hyo Hout Hv HO
  iintro ⟨Byo, Hout, Hv, HO⟩
  iapply (ysWait o w κ ιs c (r := 3) (j := 0) (by omega) (q := 36) (by omega) rfl) $$ HI Cys0 HO Pys0
  iintro ⟨HO, Pys0, -, Bys0⟩
  iapply (ysWait o w κ ιs c (r := 3) (j := 1) (by omega) (q := 36) (by omega) rfl) $$ HI Cys1 HO Pys1
  iintro ⟨HO, Pys1, -, Bys1⟩
  imod (close o w κ ιs c (sm := .reg barS) partOf_bar (by decide) (R := 1) (fun r hr => if_neg (by omega))) $$ HI Pbar with Vbar
  imod (close o w κ ιs c (sm := .dma xsS) partOf_xs (by decide) (R := 8) (fun r hr => if_neg (by omega))) $$ HI Pxs with Vxs
  imod (close o w κ ιs c (sm := .dma xrS) partOf_xr (by decide) (R := 8) (fun r hr => if_neg (by omega))) $$ HI Pxr with Vxr
  imod (close o w κ ιs c (sm := .reg xcS) partOf_xc (by decide) (R := 7) (fun r hr => if_neg (by omega))) $$ HI Pxc with Vxc
  imod (close o w κ ιs c (sm := .reg ycS) partOf_yc (by decide) (R := 1) (fun r hr => if_neg (by omega))) $$ HI Pyc with Vyc
  imod (close o w κ ιs c (sm := .dma (ysS 0)) (partOf_ys 0) (by decide) (R := 4) (fun r hr => if_neg (by omega))) $$ HI Pys0 with Vys0
  imod (close o w κ ιs c (sm := .dma (ysS 1)) (partOf_ys 1) (by decide) (R := 4) (fun r hr => if_neg (by omega))) $$ HI Pys1 with Vys1
  imod (close o w κ ιs c (sm := .dma (yrS 0)) (partOf_yr 0) (by decide) (R := 4) (fun r hr => if_neg (by omega))) $$ HI Pyr0 with Vyr0
  imod (close o w κ ιs c (sm := .dma (yrS 1)) (partOf_yr 1) (by decide) (R := 4) (fun r hr => if_neg (by omega))) $$ HI Pyr1 with Vyr1
  iapply (ret_intro c)
  iapply Hk
  unfold doneSt sems0 bufs8
  isplitl [HO]; · iexact HO
  isplitl [Vxs Vxr Vxc Vyc Vys0 Vys1 Vyr0 Vyr1]
  · isplitl [Vxs Vxr Vxc Vyc]
    · isplitl [Vxs]; · iexact Vxs
      isplitl [Vxr]; · iexact Vxr
      isplitl [Vxc]; · iexact Vxc
      iexact Vyc
    isplitl [Vys0 Vys1]
    · isplitl [Vys0]; · iexact Vys0
      iexact Vys1
    isplitl [Vyr0]; · iexact Vyr0
    iexact Vyr1
  isplitl [Vbar]; · iexact Vbar
  isplitl [Bxs Bxr Bys0 Bys1 Byr0 Byr1 Bsm Byo]
  · isplitl [Bxs Bxr]
    · isplitl [Bxs]; · iexact Bxs
      iexact Bxr
    isplitl [Bys0 Bys1]
    · isplitl [Bys0]; · iexact Bys0
      iexact Bys1
    isplitl [Byr0 Byr1]
    · isplitl [Byr0]; · iexact Byr0
      iexact Byr1
    isplitl [Bsm]; · iexact Bsm
    iexact Byo
  isplitl [Hwo]; · iexact Hwo
  isplitl [Hv]; · iexact Hv
  isplitl [Ha]; · iexact Ha
  iexact Hout

end Parts

end Cert.Proof
-- ==== Proof.Deal.lean ====
/-
  What is dealt out at the launch: the credits, the duties' tokens, the tokens of the landing slots.
-/
module

public import proofs.«01_k».proof.Proof.Body

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ## The credits -/

/-- All a device waits for. -/
def dues (c : Dev nD) : CellTallies nD τ sig ℕ := ∑ q ∈ Finset.Ico 1 36, due c q

theorem sum_pay (q : ℕ) : ∑ d : Dev nD, pay d q = ∑ d : Dev nD, due d q := by
  unfold pay
  by_cases h1 : q = 1
  · subst h1
    have e : ∀ d : Dev nD, due d 1 = tallyAt (barC d) 1 1 + tallyAt (barC d) 1 1 := fun d => by
      unfold due; rw [if_pos (by omega), if_pos rfl]
    simp only [if_true, e]
    rw [Finset.sum_add_distrib, Finset.sum_add_distrib]
    exact congrArg₂ (· + ·) (Equiv.sum_comp xperm fun d => (tallyAt (barC d) 1 1 : CellTallies nD τ sig ℕ))
      (Equiv.sum_comp yperm fun d => (tallyAt (barC d) 1 1 : CellTallies nD τ sig ℕ))
  · simp only [if_neg h1]
    unfold payee
    by_cases h : q % 4 = 0 ∨ q % 4 = 2
    · simp only [if_pos h]; exact Equiv.sum_comp xperm fun d => due d q
    · simp only [if_neg h]; exact Equiv.sum_comp yperm fun d => due d q

theorem sum_owed : ∑ d : Dev nD, owed d 1 = ∑ d : Dev nD, dues d := by
  unfold owed dues
  rw [Finset.sum_comm, Finset.sum_comm (s := Finset.univ) (t := Finset.Ico 1 36) (f := fun d q => due d q)]
  exact Finset.sum_congr rfl fun q _ => sum_pay q

theorem dues_own (c : Dev nD) (g : GSem nD τ sig) (h : dues c g ≠ 0) : g.1 = (c.tc : Thread nD τ) := by
  obtain ⟨i, hi⟩ := Finsupp.ne_iff.mp h
  obtain ⟨q, -, hp⟩ := Pipeline.sum_pos_exists (Nat.pos_of_ne_zero hi)
  exact (due_pos hp).1

omit [FloatOps F] in
theorem cred_sum (s : Finset ℕ) (f : ℕ → CellTallies nD τ sig ℕ) : (cred (∑ q ∈ s, f q) : sProp 𝕄) ⊢ BI.bigSep s (fun q => cred (f q)) := by
  induction s using Finset.induction_on with
  | empty => rw [Finset.sum_empty, cred_zero, BI.bigSep_empty]; exact .rfl
  | insert a s ha ih =>
    rw [Finset.sum_insert ha, BI.bigSep_insert ha]
    exact (cred_add _ _).1.trans (sep_mono_right ih)

omit [FloatOps F] in
theorem launch_creds (c : Dev nD) :
    (Pipeline.launchCred (fun d => owed d 1) c : sProp 𝕄) ⊢ iprop(cred (tallyAt (barC c) 1 2) ∗ creds (F := F) c 1) := by
  rw [Pipeline.launchCred_of_sum (fun d => owed d 1) dues sum_owed dues_own c]
  have e : Finset.Ico 1 36 = insert 1 (Finset.Ico 2 36) := by
    ext x; simp only [Finset.mem_Ico, Finset.mem_insert]; omega
  have e1 : due c 1 = tallyAt (barC c) 1 2 := by
    unfold due; rw [if_pos (by omega), if_pos rfl, tallyAt_add]
  have e2 : BI.bigSep (Finset.Ico 2 36) (fun q => (cred (due c q) : sProp 𝕄)) = BI.bigSep (Finset.Ico 2 36) (crd (F := F) c) :=
    BI.bigSep_congr fun q hq => by
      unfold crd; rw [if_neg (by have := (Finset.mem_Ico.mp hq).1; omega)]
  have h1 : (cred (dues c) : sProp 𝕄) ⊢ iprop(cred (tallyAt (barC c) 1 2) ∗ BI.bigSep (Finset.Ico 2 36) (crd (F := F) c)) := by
    unfold dues
    refine (cred_sum _ _).trans ?_
    rw [e, BI.bigSep_insert (by simp), e1, e2]
    exact .rfl
  have h2 : BI.bigSep (Finset.Ico 2 36) (crd (F := F) c) ⊢ creds (F := F) c 1 := by
    unfold creds
    rw [e, BI.bigSep_insert (by simp), show crd (F := F) c 1 = iprop(emp) from if_pos rfl]
    refine BIBase.Entails.trans ?_ (BIBase.Entails.refl (P := iprop(emp ∗ BI.bigSep (Finset.Ico 2 36) (crd (F := F) c))))
    iintro H
    isplitr; · iempintro
    iexact H
  exact h1.trans (sep_mono_right h2)

/-! ## The tokens of the duties -/

/-- The six duties a device pays or sets up for a chunk: the semaphore, -/
def tsem (k : Fin 2) : Fin 6 → SemLoc sig
  | 0 => .dma xsS
  | 1 => .dma xrS
  | 2 => .reg xcS
  | 3 => .reg ycS
  | 4 => .dma (ysS k)
  | 5 => .dma (yrS k)
/-- the round, -/
def trnd (r : ℕ) (k : Fin 2) : Fin 6 → ℕ
  | 0 | 1 | 2 => 2 * r + k.val
  | 3 => 0
  | 4 | 5 => r
/-- the duty, -/
def tdty (r : ℕ) (k : Fin 2) : Fin 6 → ℕ
  | 3 => 2 * r + k.val
  | _ => 0
/-- and whose semaphore it is. -/
def tper : Fin 6 → (Dev nD ≃ Dev nD)
  | 0 | 4 => Equiv.refl _
  | 1 | 2 => xperm
  | 3 | 5 => yperm

abbrev J : Type := Fin 4 × Fin 2 × Fin 6

def tkey (j : J) : SemLoc sig × ℕ × ℕ := (tsem j.2.1 j.2.2, trnd j.1.val j.2.1 j.2.2, tdty j.1.val j.2.1 j.2.2)

theorem tkey_inj : Function.Injective tkey := by decide

def chunkToks : Finset (GSem nD τ sig × ℕ × ℕ) :=
  Finset.univ.image fun cj : Dev nD × J => (((cj.1 : Thread nD τ), (tkey cj.2).1), (tkey cj.2).2)
def barToks : Finset (GSem nD τ sig × ℕ × ℕ) :=
  Finset.univ.image fun cd : Dev nD × Fin 2 => (barC cd.1, 0, cd.2.val)

theorem chunk_inj : Function.Injective fun cj : Dev nD × J => ((((cj.1 : Thread nD τ), (tkey cj.2).1), (tkey cj.2).2) : GSem nD τ sig × ℕ × ℕ) :=
  fun a b h => Prod.ext (congrArg (fun t : GSem nD τ sig × ℕ × ℕ => t.1.1.1) h)
    (tkey_inj (Prod.ext (congrArg (fun t : GSem nD τ sig × ℕ × ℕ => t.1.2) h) (congrArg (fun t : GSem nD τ sig × ℕ × ℕ => t.2) h)))
theorem bar_inj : Function.Injective fun cd : Dev nD × Fin 2 => ((barC cd.1, 0, cd.2.val) : GSem nD τ sig × ℕ × ℕ) :=
  fun a b h => Prod.ext (congrArg (fun t : GSem nD τ sig × ℕ × ℕ => t.1.1.1) h) (Fin.ext (congrArg (fun t : GSem nD τ sig × ℕ × ℕ => t.2.2) h))

theorem tkey_ne_bar : ∀ j : J, (tkey j).1 ≠ .reg barS := by decide

theorem toks_disjoint : Disjoint chunkToks barToks := by
  rw [Finset.disjoint_left]
  intro t h1 h2
  obtain ⟨cj, -, rfl⟩ := Finset.mem_image.mp h1
  obtain ⟨cd, -, h⟩ := Finset.mem_image.mp h2
  exact tkey_ne_bar cj.2 (congrArg (fun t : GSem nD τ sig × ℕ × ℕ => t.1.2) h).symm

/-- Every token. -/
def allToks : Finset (GSem nD τ sig × ℕ × ℕ) := chunkToks ∪ barToks

/-- What a device holds of a chunk's tokens once they are dealt. -/
def six (c : Dev nD) (i r : ℕ) (k : Fin 2) : sProp 𝕄 :=
  iprop(dutyTok ER (xsC c) i 0 ∗ dutyTok ER (xrC (xp c)) i 0 ∗ dutyTok ER (xcC (xp c)) i 0 ∗ dutyTok ER (ycC (yp c)) 0 i
    ∗ dutyTok ER (ysC c k) r 0 ∗ dutyTok ER (yrC (yp c) k) r 0)

/-- The devices permuted, by the kind of duty. -/
def deal : Dev nD × J ≃ Dev nD × J where
  toFun cj := (tper cj.2.2.2 cj.1, cj.2)
  invFun cj := ((tper cj.2.2.2).symm cj.1, cj.2)
  left_inv cj := Prod.ext ((tper cj.2.2.2).symm_apply_apply cj.1) rfl
  right_inv cj := Prod.ext ((tper cj.2.2.2).apply_symm_apply cj.1) rfl

omit [FloatOps F] in
theorem bigSep_fin6 (Φ : Fin 6 → sProp 𝕄) : BI.bigSep Finset.univ Φ = iprop(Φ 0 ∗ Φ 1 ∗ Φ 2 ∗ Φ 3 ∗ Φ 4 ∗ Φ 5) :=
  BI.bigSep_univ_eq_bigSepL [0, 1, 2, 3, 4, 5] (by decide) (by decide) Φ
omit [FloatOps F] in
theorem bigSep_fin4 (Φ : ℕ → sProp 𝕄) : BI.bigSep (Finset.univ : Finset (Fin 4)) (fun i => Φ i.val) = BI.bigSep (Finset.Ico 0 4) Φ := by
  rw [show Finset.Ico 0 4 = (Finset.univ : Finset (Fin 4)).map Fin.valEmbedding from by decide, BI.bigSep_map]; rfl

omit [FloatOps F] in
theorem chunk_deal : BI.bigSep chunkToks (fun x => (dutyTok ER x.1 x.2.1 x.2.2 : sProp 𝕄))
    = BI.bigSep Finset.univ fun c : Dev nD => BI.bigSep (Finset.Ico 0 4) fun r => iprop(six (F := F) c (2 * r) r 0 ∗ six c (2 * r + 1) r 1) := by
  unfold chunkToks
  rw [BI.bigSep_image_of_injOn chunk_inj.injOn, BI.bigSep_univ_equiv deal, BI.bigSep_univ_prod]
  refine BI.bigSep_congr fun c _ => ?_
  rw [BI.bigSep_univ_prod, ← bigSep_fin4 (fun r => iprop(six (F := F) c (2 * r) r 0 ∗ six c (2 * r + 1) r 1))]
  refine BI.bigSep_congr fun r _ => ?_
  rw [BI.bigSep_univ_prod, BI.bigSep_fin_two, bigSep_fin6, bigSep_fin6]
  rfl

omit [FloatOps F] in
theorem bar_deal : BI.bigSep barToks (fun x => (dutyTok ER x.1 x.2.1 x.2.2 : sProp 𝕄))
    ⊢ BI.bigSep Finset.univ fun c : Dev nD => iprop(dutyTok ER (barC (xp c)) 0 0 ∗ dutyTok ER (barC (yp c)) 0 1) := by
  unfold barToks
  rw [BI.bigSep_image_of_injOn bar_inj.injOn, BI.bigSep_univ_prod,
    BI.bigSep_congr (Ψ := fun c : Dev nD => iprop(dutyTok ER (barC c) 0 0 ∗ dutyTok ER (barC c) 0 1)) fun c _ =>
      BI.bigSep_fin_two (fun k : Fin 2 => (dutyTok ER (barC c) 0 k.val : sProp 𝕄)), BI.bigSep_sep', BI.bigSep_sep',
    BI.bigSep_univ_equiv xperm (fun c : Dev nD => (dutyTok ER (barC c) 0 0 : sProp 𝕄)), BI.bigSep_univ_equiv yperm (fun c : Dev nD => (dutyTok ER (barC c) 0 1 : sProp 𝕄))]
  exact .rfl

/-! ## The tokens of the landing slots -/

abbrev keys : Finset (Dev nD × Fin 2) := Finset.univ

def flip : Dev nD × Fin 2 ≃ Dev nD × Fin 2 := Equiv.prodCongr yperm (Equiv.refl _)

theorem slots_image : keys ×ˢ Finset.range 4 = Finset.univ.image fun x : (Dev nD × Fin 2) × Fin 4 => (x.1, x.2.val) := by
  ext x
  simp only [Finset.mem_product, Finset.mem_univ, true_and, Finset.mem_range, Finset.mem_image]
  exact ⟨fun h => ⟨(x.1, ⟨x.2, h⟩), rfl⟩, fun ⟨y, hy⟩ => hy ▸ y.2.isLt⟩
theorem slots_inj : Function.Injective fun x : (Dev nD × Fin 2) × Fin 4 => (x.1, x.2.val) :=
  fun a b h => Prod.ext (congrArg (fun t : (Dev nD × Fin 2) × ℕ => t.1) h) (Fin.ext (congrArg (fun t : (Dev nD × Fin 2) × ℕ => t.2) h))

omit [FloatOps F] in
theorem slots_deal : BI.bigSep (keys ×ˢ Finset.range 4) (fun x => (writeTok ES x.1 (x.2 + 1) : sProp 𝕄))
    = BI.bigSep Finset.univ fun c : Dev nD => BI.bigSep (Finset.Ico 0 4) fun r =>
        iprop(writeTok ES (yp c, (0 : Fin 2)) (r + 1) ∗ writeTok ES (yp c, (1 : Fin 2)) (r + 1)) := by
  rw [slots_image, BI.bigSep_image_of_injOn slots_inj.injOn, BI.bigSep_univ_prod, BI.bigSep_univ_equiv flip, BI.bigSep_univ_prod]
  refine BI.bigSep_congr fun c _ => ?_
  rw [BI.bigSep_fin_two, BI.bigSep_sep', ← bigSep_fin4 (fun r => writeTok ES (yp c, (0 : Fin 2)) (r + 1)), ← bigSep_fin4 (fun r => writeTok ES (yp c, (1 : Fin 2)) (r + 1))]
  rfl

omit [FloatOps F] in
theorem readers_deal : BI.bigSep keys (fun k => (readerAt ES k 0 : sProp 𝕄))
    = BI.bigSep Finset.univ fun c : Dev nD => iprop(readerAt ES (c, (0 : Fin 2)) 0 ∗ readerAt ES (c, (1 : Fin 2)) 0) := by
  rw [BI.bigSep_univ_prod]
  exact BI.bigSep_congr fun c _ => BI.bigSep_fin_two _

omit [FloatOps F] in
theorem ticket_intro (c : Dev nD) (i r : ℕ) (k : Fin 2) : iprop(six (F := F) c i r k ∗ writeTok ES (yp c, k) (r + 1)) ⊢ ticket (F := F) c i r k := by
  unfold six ticket
  iintro ⟨⟨H1, H2, H3, H4, H5, H6⟩, H7⟩
  isplitl [H1 H2]; · isplitl [H1] <;> iassumption
  isplitl [H3]; · iexact H3
  isplitl [H4]; · iexact H4
  isplitl [H7]; · iexact H7
  isplitl [H5] <;> iassumption

omit [FloatOps F] in
theorem tickets_intro (c : Dev nD) :
    iprop((BI.bigSep (Finset.Ico 0 4) fun r => iprop(six (F := F) c (2 * r) r 0 ∗ six c (2 * r + 1) r 1))
      ∗ BI.bigSep (Finset.Ico 0 4) fun r => iprop(writeTok ES (yp c, (0 : Fin 2)) (r + 1) ∗ writeTok ES (yp c, (1 : Fin 2)) (r + 1)))
      ⊢ tickets (F := F) c 0 := by
  have h : ∀ r, iprop((six (F := F) c (2 * r) r 0 ∗ six c (2 * r + 1) r 1) ∗ (writeTok ES (yp c, (0 : Fin 2)) (r + 1) ∗ writeTok ES (yp c, (1 : Fin 2)) (r + 1)))
      ⊢ iprop(ticket (F := F) c (2 * r) r 0 ∗ ticket c (2 * r + 1) r 1) := fun r => by
    iintro ⟨⟨H1, H2⟩, H3, H4⟩
    isplitl [H1 H3]
    · iapply (ticket_intro c (2 * r) r 0)
      isplitl [H1] <;> iassumption
    · iapply (ticket_intro c (2 * r + 1) r 1)
      isplitl [H2] <;> iassumption
  unfold tickets
  rw [← BI.bigSep_sep']
  exact BI.bigSep_mono fun r _ => h r

end Cert.Proof
-- ==== Proof.Buffers.lean ====
/-
  The buffers of a device, cut into the slots the kernel uses and put together again, and what the result holds in the end.
-/
module

public import proofs.«01_k».proof.Proof.Deal

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ## Two slots of a buffer -/

theorem mem_slot {a b : ℕ} (k : Fin 2) (inb) (i : (⟨3, ![2, a, b]⟩ : Shape).Idx) :
    i ∈ (Rect.unit (s := ⟨3, ![2, a, b]⟩) ![k.val, 0, 0] ![1, a, b] inb).set ↔ (i 0).val = k.val := by
  rw [Rect.mem_set_unit]
  have h1 : (i 1).val < a := (i 1).isLt
  have h2 : (i 2).val < b := (i 2).isLt
  constructor
  · intro h
    have h0 : k.val ≤ (i 0).val ∧ (i 0).val < k.val + 1 := h 0
    omega
  · intro h x
    fin_cases x
    · exact (show k.val ≤ (i 0).val ∧ (i 0).val < k.val + 1 from by omega)
    · exact (show 0 ≤ (i 1).val ∧ (i 1).val < 0 + a from by omega)
    · exact (show 0 ≤ (i 2).val ∧ (i 2).val < 0 + b from by omega)

theorem woB_mem (k : Fin 2) (i : S2x4096x512.Idx) : i ∈ (woB k).view.set ↔ (i 0).val = k.val := by
  rw [Memref.set_view_squeeze]
  exact (Iff.of_eq (congrArg (i ∈ ·) (View.set_slice_whole cc0_scratch0 _))).trans (mem_slot k _ i)
theorem ysB_mem (k : Fin 2) (i : S2x1024x512.Idx) : i ∈ (ysB k).view.set ↔ (i 0).val = k.val := by
  rw [Memref.set_view_squeeze]
  exact (Iff.of_eq (congrArg (i ∈ ·) (View.set_slice_whole cc0_scratch3 _))).trans (mem_slot k _ i)
theorem yrB_mem (k : Fin 2) (i : S2x1024x512.Idx) : i ∈ (yrB k).view.set ↔ (i 0).val = k.val := by
  rw [Memref.set_view_squeeze]
  exact (Iff.of_eq (congrArg (i ∈ ·) (View.set_slice_whole cc0_scratch4 _))).trans (mem_slot k _ i)

section

variable {ℓ : Loc nD τ sig} {S T : Finset (Idx ℓ)}

omit [FloatOps F] in
/-- A whole buffer and two sets that make it up. -/
theorem two_split (h : ∀ i, i ∈ T ↔ i ∉ S) :
    iprop(∃ f : Buf (Elt F) ℓ, ℓ ↦{fullShare} f) ⊢ (iprop((∃ f : Buf (Elt F) ℓ, ℓ ↦[S]{fullShare} f) ∗ ∃ f : Buf (Elt F) ℓ, ℓ ↦[T]{fullShare} f) : sProp 𝕄) := by
  have hT : Finset.univ \ S = T := by ext i; simp [h]
  iintro ⟨%f, H⟩
  ihave H' := (pointsTo_split_subset (Finset.subset_univ S)).1 $$ H
  rw [hT]
  icases H' with ⟨H1, H2⟩
  isplitl [H1] <;> (iexists f; iassumption)
omit [FloatOps F] in
theorem two_join (h : ∀ i, i ∈ T ↔ i ∉ S) :
    iprop((∃ f : Buf (Elt F) ℓ, ℓ ↦[S]{fullShare} f) ∗ ∃ f : Buf (Elt F) ℓ, ℓ ↦[T]{fullShare} f) ⊢ (iprop(∃ f : Buf (Elt F) ℓ, ℓ ↦{fullShare} f) : sProp 𝕄) := by
  have hT : T = Finset.univ \ S := by ext i; simp [h]
  subst hT
  iintro ⟨⟨%f, H1⟩, %g, H2⟩
  iexists (S.piecewise f g)
  iapply (pointsTo_join_subset (Finset.subset_univ S))
  isplitl [H1] <;> iassumption

end

theorem two_mem {n : ℕ} {p : Prop} {q : Prop} (h : n < 2) (h0 : p ↔ n = (0 : Fin 2).val) (h1 : q ↔ n = (1 : Fin 2).val) : q ↔ ¬p := by
  rw [h0, h1]
  show n = 1 ↔ ¬n = 0
  omega

theorem woB_two (i : S2x4096x512.Idx) : i ∈ (woB 1).view.set ↔ i ∉ (woB 0).view.set := two_mem (i 0).isLt (woB_mem 0 i) (woB_mem 1 i)
theorem ysB_two (i : S2x1024x512.Idx) : i ∈ (ysB 1).view.set ↔ i ∉ (ysB 0).view.set := two_mem (i 0).isLt (ysB_mem 0 i) (ysB_mem 1 i)
theorem yrB_two (i : S2x1024x512.Idx) : i ∈ (yrB 1).view.set ↔ i ∉ (yrB 0).view.set := two_mem (i 0).isLt (yrB_mem 0 i) (yrB_mem 1 i)

/-- A whole buffer at contents not chosen, as the launch hands it over. -/
abbrev anyBuf (c : Dev nD) (b : Ref sig .tc) : sProp 𝕄 := iprop(∃ f : Buf (Elt F) ((c : Thread nD τ).loc b), ((c : Thread nD τ).loc b) ↦{fullShare} f)

omit [FloatOps F] in
theorem anyv_whole (c : Dev nD) (b : Ref sig .tc) : (anyv (F := F) (Memref.whole b) c : sProp 𝕄) = anyBuf c b := by
  unfold anyv anyBuf
  rw [show (Memref.whole b).view.set = Finset.univ from View.set_whole b]

omit [FloatOps F] in
theorem wo_split (c : Dev nD) : anyBuf c cc0_scratch0 ⊢ (iprop(anyv (F := F) (woB 0) c ∗ anyv (F := F) (woB 1) c) : sProp 𝕄) := two_split woB_two
omit [FloatOps F] in
theorem wo_join (c : Dev nD) : (iprop(anyv (F := F) (woB 0) c ∗ anyv (F := F) (woB 1) c) : sProp 𝕄) ⊢ anyBuf c cc0_scratch0 := two_join woB_two
omit [FloatOps F] in
theorem ys_split (c : Dev nD) : anyBuf c cc0_scratch3 ⊢ (iprop(anyv (F := F) (ysB 0) c ∗ anyv (F := F) (ysB 1) c) : sProp 𝕄) := two_split ysB_two
omit [FloatOps F] in
theorem ys_join (c : Dev nD) : (iprop(anyv (F := F) (ysB 0) c ∗ anyv (F := F) (ysB 1) c) : sProp 𝕄) ⊢ anyBuf c cc0_scratch3 := two_join ysB_two
omit [FloatOps F] in
theorem yr_split (c : Dev nD) : anyBuf c cc0_scratch4 ⊢ (iprop(anyv (F := F) (yrB 0) c ∗ anyv (F := F) (yrB 1) c) : sProp 𝕄) := two_split yrB_two
omit [FloatOps F] in
theorem yr_join (c : Dev nD) : (iprop(anyv (F := F) (yrB 0) c ∗ anyv (F := F) (yrB 1) c) : sProp 𝕄) ⊢ anyBuf c cc0_scratch4 := two_join yrB_two

omit [FloatOps F] in
/-- The rows of Wo, shared between the two slots. -/
theorem arg1_halves (c : Dev nD) (f : Vec F S4096x8192 .f32) :
    (a1M.view.loc (c : Thread nD τ) ↦{fullShare} f : sProp 𝕄)
      ⊣⊢ iprop((a1M.view.loc (c : Thread nD τ) ↦{half 0} f) ∗ a1M.view.loc (c : Thread nD τ) ↦{half 1} f) :=
  pointsTo_share (PosShare.mem_left_op_right _)

omit [FloatOps F] in
/-- The seven scratch buffers, as the kernel's slots. -/
theorem scratch_split (c : Dev nD) :
    iprop(anyBuf (F := F) c cc0_scratch0 ∗ anyBuf c cc0_scratch1 ∗ anyBuf c cc0_scratch2 ∗ anyBuf c cc0_scratch3 ∗ anyBuf c cc0_scratch4 ∗ anyBuf c cc0_scratch5 ∗ anyBuf c cc0_scratch6)
      ⊢ (iprop((anyv (F := F) (woB 0) c ∗ anyv (F := F) (woB 1) c) ∗ bufs8 (F := F) c) : sProp 𝕄) := by
  unfold bufs8
  rw [anyv_whole, anyv_whole, anyv_whole, anyv_whole]
  iintro ⟨H0, H1, H2, H3, H4, H5, H6⟩
  isplitl [H0]; · iapply (wo_split c) $$ H0
  isplitl [H1 H2]; · isplitl [H1] <;> iassumption
  isplitl [H3]; · iapply (ys_split c) $$ H3
  isplitl [H4]; · iapply (yr_split c) $$ H4
  isplitl [H5] <;> iassumption
omit [FloatOps F] in
theorem scratch_join (c : Dev nD) :
    (iprop((anyv (F := F) (woB 0) c ∗ anyv (F := F) (woB 1) c) ∗ bufs8 (F := F) c) : sProp 𝕄)
      ⊢ iprop(anyBuf (F := F) c cc0_scratch0 ∗ anyBuf c cc0_scratch1 ∗ anyBuf c cc0_scratch2 ∗ anyBuf c cc0_scratch3 ∗ anyBuf c cc0_scratch4 ∗ anyBuf c cc0_scratch5 ∗ anyBuf c cc0_scratch6) := by
  unfold bufs8
  rw [anyv_whole, anyv_whole, anyv_whole, anyv_whole]
  iintro ⟨H0, ⟨H1, H2⟩, H3, H4, H5, H6⟩
  isplitl [H0]; · iapply (wo_join c) $$ H0
  isplitl [H1]; · iexact H1
  isplitl [H2]; · iexact H2
  isplitl [H3]; · iapply (ys_join c) $$ H3
  isplitl [H4]; · iapply (yr_join c) $$ H4
  isplitl [H5] <;> iassumption

/-! ## The result -/

/-- A row and a column of a chunk. -/
def at2 (r : Fin 1024) (s : Fin 512) : S1024x512.Idx := Fin.cons r (Fin.cons s finZeroElim)

/-- A chunk of the result, element by element. -/
theorem outSl_read (n : ℕ) (f : Vec F S1x1024x8192 .f32) (r : Fin 1024) (s : Fin 512) (i : S1x1024x8192.Idx)
    (h1 : (i 1).val = r.val) (h2 : (i 2).val = 512 * (n % 16) + s.val) :
    (outSl n).view.read (Elt F) f (at2 r s) = f i := by
  rw [Memref.read_squeeze_slice a2M _ _ _ shapeCasts_y' f]
  refine (shapeCast_dropUnit_apply ![1024, 512] _ _ (at2 r s)).trans ?_
  refine congrArg f (funext fun a => Fin.ext ?_)
  fin_cases a
  · show 0 + 1 * 0 = (i 0).val
    have : (i 0).val < 1 := (i 0).isLt
    omega
  · show 0 + 1 * r.val = (i 1).val; omega
  · show 512 * (n % 16) + 1 * s.val = (i 2).val; omega

section

variable (o : Dev nD → Vec F S2048x4096 .bf16) (w : Dev nD → Vec F S4096x8192 .f32)

/-- What the result of device c holds: its own half of the columns from its own sums, the other half as received. -/
def outF (c : Dev nD) : Vec F S1x1024x8192 .f32 := fun i =>
  if (i 2).val / 4096 = c.val % 2 then
    sumv o w c ((i 2).val / 512 % 8) (at2 (i 1) ⟨(i 2).val % 512, Nat.mod_lt _ (by decide)⟩)
  else yout o w c ((i 2).val / 512 % 8) (at2 (i 1) ⟨(i 2).val % 512, Nat.mod_lt _ (by decide)⟩)

theorem outSt_done (c : Dev nD) : outSt o w c 8 8 ⊢ (a2M.view.loc (c : Thread nD τ) ↦{fullShare} outF o w c : sProp 𝕄) := by
  unfold outSt
  iintro ⟨%f, H, %hf⟩
  have e : f = outF o w c := by
    obtain ⟨h1, h2⟩ := hf
    funext i
    have hi : (i 2).val < 8192 := (i 2).isLt
    have hc : c.val < 4 := c.isLt
    have hm : (i 2).val / 512 % 8 < 8 := Nat.mod_lt _ (by decide)
    unfold outF
    split
    · rename_i hy
      rw [← h1 _ hm]
      exact (outSl_read _ f _ _ i rfl (by show (i 2).val = 512 * ((8 * (c.val % 2) + (i 2).val / 512 % 8) % 16) + (i 2).val % 512; omega)).symm
    · rename_i hy
      rw [← h2 _ hm]
      exact (outSl_read _ f _ _ i rfl (by show (i 2).val = 512 * ((8 * (1 - c.val % 2) + (i 2).val / 512 % 8) % 16) + (i 2).val % 512; omega)).symm
  subst e
  iexact H

theorem outSt_start (c : Dev nD) (f : Vec F S1x1024x8192 .f32) : (a2M.view.loc (c : Thread nD τ) ↦{fullShare} f : sProp 𝕄) ⊢ outSt o w c 0 0 := by
  unfold outSt
  iintro H
  iexists f
  isplitl [H]; · iexact H
  ipureintro
  exact ⟨fun m h => absurd h (Nat.not_lt_zero m), fun m h => absurd h (Nat.not_lt_zero m)⟩

end

end Cert.Proof
-- ==== Proof.Region.lean ====
/-
  The kernel's call as a region of the program: what it is entered with, what it leaves.
-/
module

public import proofs.«01_k».proof.Proof.Buffers
public import proofs.«01_k».proof.Proof.Gen.KernelIdeal.Frame
public import Idealize.ShloMosaic.Lib.Pipeline.RegionTalk

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg BodyObligation)

variable {F : FTy → Type} [FloatOps F]

local notation "𝕄" => MT nD τ sig ℕ (Elt F) ℕ UU ℕ

variable (m : (ℓ : Loc nD τ sig) → Buf (Elt F) ℓ)

/-! ## The buffers along the program -/

/-- The buffers that outlive the call. -/
def bufs : Finset (DevRef τ sig) := (StableHlo.tcRefs τ sig).filter fun b => ¬ b.isScoped

/-- Their contents at launch, -/
def V₀ (c : Dev nD) : Valuation τ sig (Elt F) := fun b => m (c, b)
/-- when the kernel is called, -/
def V₁ (c : Dev nD) : Valuation τ sig (Elt F) := StableHlo.after hostOps0 (V₀ m c)

/-- the activations a device brings to the kernel, -/
def oof (c : Dev nD) : Vec F S2048x4096 .bf16 := iblk m c 0 t0_0
/-- and the weights. -/
def wof (c : Dev nD) : Vec F S4096x8192 .f32 := V₁ m c main_arg1

/-- When the kernel is done the result stands in the third buffer. -/
def V₂ (c : Dev nD) : Valuation τ sig (Elt F) := Function.update (V₁ m c) (Proc.devRef .tc main_v2) (outF (oof m) (wof m) c)

omit [FloatOps F] in
theorem unscoped_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

/-- The buffers the kernel works on in place. -/
def hands : Finset (DevRef τ sig) := {Proc.devRef .tc main_arg1, Proc.devRef .tc main_v2}
/-- Every buffer the call does not stage. -/
def rests : Finset (DevRef τ sig) := {Proc.devRef .tc main_arg0, Proc.devRef .tc main_arg1, Proc.devRef .tc main_v2}

omit [FloatOps F] in
theorem hands_eq (c : Dev nD) (W : Valuation τ sig (Elt F)) : (StableHlo.held (c : Thread nD τ) hands W : sProp 𝕄)
    = iprop((((c : Thread nD τ).loc main_arg1) ↦{fullShare} W main_arg1) ∗ (((c : Thread nD τ).loc main_v2) ↦{fullShare} W main_v2)) := by
  unfold StableHlo.held hands
  rw [bigSep_eq_bigSepL_of_eq [Proc.devRef .tc main_arg1, Proc.devRef .tc main_v2] (by decide) (by decide)]
  rfl

omit [FloatOps F] in
theorem rests_eq (c : Dev nD) (W : Valuation τ sig (Elt F)) : (StableHlo.held (c : Thread nD τ) rests W : sProp 𝕄)
    = iprop((((c : Thread nD τ).loc main_arg0) ↦{fullShare} W main_arg0) ∗ (((c : Thread nD τ).loc main_arg1) ↦{fullShare} W main_arg1)
      ∗ (((c : Thread nD τ).loc main_v2) ↦{fullShare} W main_v2)) := by
  unfold StableHlo.held rests
  rw [bigSep_eq_bigSepL_of_eq [Proc.devRef .tc main_arg0, Proc.devRef .tc main_arg1, Proc.devRef .tc main_v2] (by decide) (by decide)]
  rfl

omit [FloatOps F] in
/-- The staged array apart, every buffer that outlives the call is one of those. -/
theorem bufs_split (c : Dev nD) (W : Valuation τ sig (Elt F)) : (StableHlo.held (c : Thread nD τ) bufs W : sProp 𝕄)
    = iprop(StableHlo.held (c : Thread nD τ) (Pipeline.arrRefs (τ := τ) spec0) W ∗ StableHlo.held (c : Thread nD τ) rests W) := by
  rw [rests_eq]
  unfold StableHlo.held
  rw [bigSep_eq_bigSepL_of_eq (S := bufs) [Proc.devRef .tc main_v1, Proc.devRef .tc main_arg0, Proc.devRef .tc main_arg1, Proc.devRef .tc main_v2] (by decide) (by decide),
    bigSep_eq_bigSepL_of_eq (S := Pipeline.arrRefs (τ := τ) spec0) [Proc.devRef .tc main_v1] (by decide) (by decide)]
  rfl

/-- The kernel's own semaphores: those of the exchange and those of the copies on the device. -/
def osemAll : Fin 11 → SemLoc sig
  | 0 => .dma xsS
  | 1 => .dma xrS
  | 2 => .reg xcS
  | 3 => .reg ycS
  | 4 => .dma (ysS 0)
  | 5 => .dma (ysS 1)
  | 6 => .dma (yrS 0)
  | 7 => .dma (yrS 1)
  | 8 => .dma (woS 0)
  | 9 => .dma (woS 1)
  | 10 => .dma outS

/-- The semaphores of the copies on the device, at zero. -/
def locals0 (c : Dev nD) : sProp 𝕄 :=
  iprop((semVal ((c : Thread nD τ), .dma (woS 0)) 0 ∗ semVal ((c : Thread nD τ), .dma (woS 1)) 0) ∗ semVal ((c : Thread nD τ), .dma outS) 0)

omit [FloatOps F] in
theorem ownSems_eq (c : Dev nD) : (Pipeline.ownSems0 osemAll c : sProp 𝕄)
    = iprop(semVal (xsC c) 0 ∗ semVal (xrC c) 0 ∗ semVal (xcC c) 0 ∗ semVal (ycC c) 0 ∗ semVal (ysC c 0) 0 ∗ semVal (ysC c 1) 0
      ∗ semVal (yrC c 0) 0 ∗ semVal (yrC c 1) 0 ∗ semVal ((c : Thread nD τ), .dma (woS 0)) 0 ∗ semVal ((c : Thread nD τ), .dma (woS 1)) 0
      ∗ semVal ((c : Thread nD τ), .dma outS) 0) :=
  Pipeline.ownSems0_eq_of_list c osemAll [0, 1, 2, 3, 4, 5, 6, 7, 8, 9, 10] (by decide) (by decide)

/-! ## What the call is entered with -/

/-- All of a device's protocol state but its semaphores, as dealt at launch. -/
def Tk (c : Dev nD) : sProp 𝕄 :=
  iprop(∃ (κ : GSem nD τ sig → ℕ) (ιs : Dev nD × Fin 2 → ℕ), (BI.bigSep (cellsLive ∪ cellsDormant) (fun g => cellInv ER (kRd (oof m) (wof m)) (κ g) g)
      ∗ BI.bigSep Finset.univ (fun k : Dev nD × Fin 2 => slotInv ES (ιs k) k (anyv (F := F) (yrB k.2) k.1)))
    ∗ (creds (F := F) c 1 ∗ tickets (F := F) c 0) ∗ barSt (F := F) c
    ∗ BI.bigSep Finset.univ (fun k : Fin 8 => (openTok ER ((c : Thread nD τ), osem k) : sProp 𝕄))
    ∗ (readerAt ES (c, (0 : Fin 2)) 0 ∗ readerAt ES (c, (1 : Fin 2)) 0))

/-- The same once its semaphores are in place. -/
def Xk (c : Dev nD) : sProp 𝕄 :=
  iprop(∃ (κ : GSem nD τ sig → ℕ) (ιs : Dev nD × Fin 2 → ℕ), known (oof m) (wof m) κ ιs ∗ (creds (F := F) c 1 ∗ tickets (F := F) c 0) ∗ barSt (F := F) c ∗ places (F := F) c ∗ atFirst (F := F) c
    ∗ (readerAt ES (c, (0 : Fin 2)) 0 ∗ readerAt ES (c, (1 : Fin 2)) 0) ∗ locals0 (F := F) c)

def Yk (c : Dev nD) : sProp 𝕄 := semVal (barC c) 0

/-- A cell of the device opened for its first round. -/
theorem open_one (κ : GSem nD τ sig → ℕ) (c : Dev nD) (k : Fin 8) :
    iprop((BI.bigSep (cellsLive ∪ cellsDormant) fun g => cellInv ER (kRd (oof m) (wof m)) (κ g) g)
      ∗ (openTok ER ((c : Thread nD τ), osem k) ∗ semVal ((c : Thread nD τ), osem k) 0))
    ⊢ (|={Set.univ}=> iprop(atPos ER ((c : Thread nD τ), osem k) 0 ∅ 0 ∗ reached ER ((c : Thread nD τ), osem k) 0) : sProp 𝕄) := by
  have e : (BI.bigSep (cellsLive ∪ cellsDormant) fun g => (cellInv ER (kRd (oof m) (wof m)) (κ g) g : sProp 𝕄))
      ⊢ cellInv ER (kRd (oof m) (wof m)) (κ ((c : Thread nD τ), osem k)) ((c : Thread nD τ), osem k) :=
    BI.bigSep_elim (Finset.mem_union_right _ (Finset.mem_image.mpr ⟨(c, k), Finset.mem_univ _, rfl⟩))
  iintro ⟨#HI, Ho, Hs⟩
  iapply (Rounds.cell_open ER (kRd (oof m) (wof m)) (g := ((c : Thread nD τ), osem k)) (Set.mem_univ (κ ((c : Thread nD τ), osem k))))
  isplitr; · iapply e; iexact HI
  isplitl [Ho] <;> iassumption

omit [FloatOps F] in
/-- Two families over a finite type as one, and back. -/
theorem sep_join {ι : Type} [Fintype ι] [DecidableEq ι] (Φ Ψ : ι → sProp 𝕄) :
    iprop(BI.bigSep Finset.univ Φ ∗ BI.bigSep Finset.univ Ψ) ⊢ BI.bigSep Finset.univ (fun c => iprop(Φ c ∗ Ψ c)) :=
  Entails.of_eq (BI.bigSep_sep' _ _ _).symm
omit [FloatOps F] in
theorem sep_part {ι : Type} [Fintype ι] [DecidableEq ι] (Φ Ψ : ι → sProp 𝕄) :
    BI.bigSep Finset.univ (fun c => iprop(Φ c ∗ Ψ c)) ⊢ iprop(BI.bigSep Finset.univ Φ ∗ BI.bigSep Finset.univ Ψ) :=
  Entails.of_eq (BI.bigSep_sep' _ _ _)

omit [FloatOps F] in
theorem fin8_eq (Φ : Fin 8 → sProp 𝕄) : BI.bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem open_all (κ : GSem nD τ sig → ℕ) (c : Dev nD) :
    iprop((BI.bigSep (cellsLive ∪ cellsDormant) fun g => cellInv ER (kRd (oof m) (wof m)) (κ g) g)
      ∗ BI.bigSep Finset.univ (fun k : Fin 8 => iprop(openTok ER ((c : Thread nD τ), osem k) ∗ semVal ((c : Thread nD τ), osem k) 0)))
    ⊢ (|={Set.univ}=> iprop(places (F := F) c ∗ atFirst (F := F) c) : sProp 𝕄) := by
  have h1 := (BI.bigSep_with_persistent (S := (Finset.univ : Finset (Fin 8)))
    (R := (BI.bigSep (cellsLive ∪ cellsDormant) fun g => (cellInv ER (kRd (oof m) (wof m)) (κ g) g : sProp 𝕄)))
    (Φ := fun k : Fin 8 => iprop(openTok ER ((c : Thread nD τ), osem k) ∗ semVal ((c : Thread nD τ), osem k) 0))
    (Ψ := fun k : Fin 8 => iprop(|={Set.univ}=> iprop(atPos ER ((c : Thread nD τ), osem k) 0 ∅ 0 ∗ reached ER ((c : Thread nD τ), osem k) 0))) fun k _ => open_one m κ c k)
  refine BIBase.Entails.trans h1 (BIBase.Entails.trans (BI.bigSep_fupd Finset.univ fun k : Fin 8 => iprop(atPos ER ((c : Thread nD τ), osem k) 0 ∅ 0 ∗ reached ER ((c : Thread nD τ), osem k) 0)) (BI.fupd_mono ?_))
  rw [fin8_eq]
  unfold places atFirst
  iintro ⟨⟨A0, R0⟩, ⟨A1, R1⟩, ⟨A2, R2⟩, ⟨A3, R3⟩, ⟨A4, R4⟩, ⟨A5, R5⟩, ⟨A6, R6⟩, A7, R7⟩
  isplitl [A0 A1 A2 A3 A4 A5 A6 A7]
  · isplitl [A0 A1 A2 A3]
    · isplitl [A0]; · iexact A0
      isplitl [A1]; · iexact A1
      isplitl [A2]; · iexact A2
      iexact A3
    isplitl [A4 A5]
    · isplitl [A4]; · iexact A4
      iexact A5
    isplitl [A6]; · iexact A6
    iexact A7
  · isplitl [R0 R1 R2 R3]
    · isplitl [R0]; · iexact R0
      isplitl [R1]; · iexact R1
      isplitl [R2]; · iexact R2
      iexact R3
    isplitl [R4 R5]
    · isplitl [R4]; · iexact R4
      iexact R5
    isplitl [R6]; · iexact R6
    iexact R7

theorem hopen (c : Dev nD) : iprop(Tk m c ∗ Pipeline.ownSems0 osemAll c ∗ levAts L lv) ⊢ (|={Set.univ}=> Xk m c : sProp 𝕄) := by
  rw [ownSems_eq]
  unfold Tk Xk
  iintro ⟨⟨%κ, %ιs, ⟨#HI, #HS⟩, Hct, Hbar, Hop, Hrd⟩, ⟨S0, S1, S2, S3, S4, S5, S6, S7, S8, S9, S10⟩, #Hlev⟩
  imod (open_all m κ c) $$ [Hop S0 S1 S2 S3 S4 S5 S6 S7] with ⟨Hpl, Hfi⟩
  · isplitr; · iexact HI
    iapply (sep_join (F := F) (fun k : Fin 8 => (openTok ER ((c : Thread nD τ), osem k) : sProp 𝕄)) fun k : Fin 8 => (semVal ((c : Thread nD τ), osem k) 0 : sProp 𝕄))
    isplitl [Hop]; · iexact Hop
    iapply (Entails.of_eq (fin8_eq (F := F) (fun k : Fin 8 => (semVal ((c : Thread nD τ), osem k) 0 : sProp 𝕄))).symm)
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  imodintro
  iexists κ; iexists ιs
  isplitr
  · unfold known
    isplitr; · iexact HI
    isplitr; · iexact HS
    iexact Hlev
  isplitl [Hct]; · iexact Hct
  isplitl [Hbar]; · iexact Hbar
  isplitl [Hpl]; · iexact Hpl
  isplitl [Hfi]; · iexact Hfi
  isplitl [Hrd]; · iexact Hrd
  unfold locals0
  isplitl [S8 S9]
  · isplitl [S8]; · iexact S8
    iexact S9
  iexact S10

/-! ## The proof data of the pipeline -/

/-- The device's scratch buffers, at any contents. -/
def scratches (c : Dev nD) : sProp 𝕄 :=
  iprop(anyBuf (F := F) c cc0_scratch0 ∗ anyBuf (F := F) c cc0_scratch1 ∗ anyBuf (F := F) c cc0_scratch2 ∗ anyBuf (F := F) c cc0_scratch3 ∗ anyBuf (F := F) c cc0_scratch4
    ∗ anyBuf (F := F) c cc0_scratch5 ∗ anyBuf (F := F) c cc0_scratch6)

/-- The weights and the result. -/
def inPlace (c : Dev nD) (W : Valuation τ sig (Elt F)) : sProp 𝕄 :=
  iprop((((c : Thread nD τ).loc main_arg1) ↦{fullShare} W main_arg1) ∗ (((c : Thread nD τ).loc main_v2) ↦{fullShare} W main_v2))

/-- Before the kernel's one point, -/
def before (c : Dev nD) : sProp 𝕄 :=
  iprop(Xk m c ∗ scratches (F := F) c ∗ inPlace c (V₁ m c) ∗ ∃ r, prngReg c r)
/-- and after it. -/
def behind (c : Dev nD) : sProp 𝕄 :=
  iprop(Yk (F := F) c ∗ (sems0 (F := F) c ∗ locals0 (F := F) c) ∗ scratches (F := F) c ∗ inPlace c (V₂ m c) ∗ ∃ r, prngReg c r)

/-- The one window is read and left in place. -/
def dat (c : Dev nD) : Dat τ (Elt F) ℕ ℕ UU ℕ cfg0 c where
  A w := V m c (Pipeline.arrRef spec0 w)
  after := fun | 0 => fun t => iblk m c 0 t | ⟨_ + 1, h⟩ => absurd h (Nat.not_lt.2 (Nat.le_add_left _ _))
  Φ t := if t.val = 0 then before m c else behind m c
  q _ := fullShare
  owed t := if t.val = 0 then owed c 1 else 0

abbrev adm : (p : Fin 1) → (pcfgs (F := F) p).Adm := fun p => (cfgs p).toPCfg_adm
def pdats : (p : Fin 1) → (c : Dev nD) → Dat τ (Elt F) ℕ ℕ UU ℕ (Pipeline.pin (pcfgs (F := F)) adm p) c
  | 0 => dat m
  | ⟨_ + 1, h⟩ => absurd h (Nat.not_lt.2 (Nat.le_add_left _ _))

theorem owed_zero (c : Dev nD) : (pdats (F := F) m 0 c).owed 0 = owed c 1 := by
  show (if ((0 : Fin (cfg0.N + 1)).val = 0) then owed c 1 else 0) = owed c 1; exact if_pos rfl
theorem owed_first (c : Dev nD) : (dat (F := F) m c).owed t0_0.castSucc = owed c 1 := by
  show (if (t0_0.castSucc : Fin (cfg0.N + 1)).val = 0 then owed c 1 else 0) = owed c 1; exact if_pos rfl
theorem owed_succ0 (c : Dev nD) : (dat (F := F) m c).owed t0_0.succ = 0 := by
  show (if (t0_0.succ : Fin (cfg0.N + 1)).val = 0 then owed c 1 else 0) = 0
  rw [if_neg (by rw [Fin.val_succ]; omega)]
theorem owed_last (c : Dev nD) : (pdats (F := F) m 0 c).owed (Fin.last _) = 0 := by
  show (if (Fin.last cfg0.N).val = 0 then owed c 1 else 0) = 0
  rw [Fin.val_last, if_neg (by rw [show cfg0.N = 1 from N_0]; decide)]
theorem inv_first (c : Dev nD) : (dat (F := F) m c).Φ t0_0.castSucc = before m c := by
  show (if (t0_0.castSucc : Fin (cfg0.N + 1)).val = 0 then before m c else behind m c) = before m c; exact if_pos rfl
theorem inv_succ (c : Dev nD) : (dat (F := F) m c).Φ t0_0.succ = behind m c := by
  show (if (t0_0.succ : Fin (cfg0.N + 1)).val = 0 then before m c else behind m c) = behind m c
  rw [if_neg (by rw [Fin.val_succ]; omega)]
theorem inv_last (c : Dev nD) : (pdats (F := F) m 0 c).Φ (Fin.last (Pipeline.pin (pcfgs (F := F)) adm 0).N) = behind m c := by
  show (if (Fin.last cfg0.N).val = 0 then before m c else behind m c) = behind m c
  rw [Fin.val_last, if_neg (by rw [show cfg0.N = 1 from N_0]; decide)]

theorem before0 (c : Dev nD) (t : Fin cfg0.N) (d) : (dat m c).before 0 t d = iblk m c 0 t :=
  ((dat m c).before_in_eq_fetched 0 rfl (fun _ => rfl) (fun _ _ _ => rfl) (fun t => by rw [show (dat m c).after 0 t = iblk m c 0 t from rfl]; unfold Dat.blockOf iblk; rw [show (dat m c).A 0 = V m c (Pipeline.arrRef spec0 0) from rfl]; try rfl) t d).trans
    (by unfold Dat.fetched Dat.blockOf iblk; rw [show (dat m c).A 0 = V m c (Pipeline.arrRef spec0 0) from rfl]; try rfl)

theorem owesAt_elim (c : Dev nD) (t : Fin (cfg0.N + 1)) (O : CellTallies nD τ sig ℕ) (h0 : (dat m c).owed t = O) :
    ((dat m c).owesAt 0 t : sProp 𝕄) ⊢ iprop(∃ W, owes (c : Thread nD τ) O W) := by
  unfold Dat.owesAt Pipeline.owesWithin; rw [h0]
  iintro ⟨%W, -, HO⟩; iexists W; iexact HO
theorem owesAt_intro (c : Dev nD) (t : Fin (cfg0.N + 1)) (O : CellTallies nD τ sig ℕ) (h0 : (dat m c).owed t = O) :
    (iprop(∃ W, owes (c : Thread nD τ) O W) : sProp 𝕄) ⊢ (dat m c).owesAt 0 t := by
  unfold Dat.owesAt Pipeline.owesWithin Dat.bound; rw [h0, show (dat m c).recorded t = Set.univ from rfl]
  iintro ⟨%W, HO⟩; iexists W; isplitr; · ipureintro; exact fun _ _ => Or.inl trivial
  iexact HO

theorem V₂_arg1 (c : Dev nD) : V₂ m c main_arg1 = wof m c := Function.update_of_ne (by decide) ..
theorem V₂_arg0 (c : Dev nD) : V₂ m c main_arg0 = V₁ m c main_arg0 := Function.update_of_ne (by decide) ..
theorem V₂_v1 (c : Dev nD) : V₂ m c main_v1 = V₁ m c main_v1 := Function.update_of_ne (by decide) ..
theorem V₂_v2 (c : Dev nD) : V₂ m c main_v2 = outF (oof m) (wof m) c := Function.update_self ..

/-! ## The kernel at its one point -/

theorem start_of (κ : GSem nD τ sig → ℕ) (ιs : Dev nD × Fin 2 → ℕ) (c : Dev nD) :
    iprop(owesE c 1 ∗ (creds (F := F) c 1 ∗ tickets (F := F) c 0) ∗ barSt (F := F) c ∗ places (F := F) c ∗ atFirst (F := F) c
      ∗ (readerAt ES (c, (0 : Fin 2)) 0 ∗ readerAt ES (c, (1 : Fin 2)) 0) ∗ locals0 (F := F) c ∗ scratches (F := F) c ∗ inPlace c (V₁ m c) ∗ acts (oof m) c)
    ⊢ startSt (oof m) (wof m) c := by
  have h1 : (((c : Thread nD τ).loc main_arg1) ↦{fullShare} V₁ m c main_arg1 : sProp 𝕄)
      ⊢ iprop((a1M.view.loc (c : Thread nD τ) ↦{half 0} wof m c) ∗ (a1M.view.loc (c : Thread nD τ) ↦{half 1} wof m c)) := (arg1_halves c (wof m c)).1
  have h2 : (((c : Thread nD τ).loc main_v2) ↦{fullShare} V₁ m c main_v2 : sProp 𝕄) ⊢ outSt (oof m) (wof m) c 0 0 := outSt_start (oof m) (wof m) c (V₁ m c main_v2)
  have h3 : scratches (F := F) c ⊢ iprop((anyv (F := F) (woB 0) c ∗ anyv (F := F) (woB 1) c) ∗ bufs8 (F := F) c) := scratch_split c
  unfold startSt locals0 inPlace woIdle
  iintro ⟨HO, ⟨Hcr, Htk⟩, Hbar, Hpl, Hfi, Hrd, ⟨⟨W0, W1⟩, So⟩, Hsc, ⟨Ha1, Hv2⟩, Ha⟩
  ihave Hsc := h3 $$ Hsc
  icases Hsc with ⟨⟨B0, B1⟩, B8⟩
  ihave Ha1 := h1 $$ Ha1
  icases Ha1 with ⟨A0, A1⟩
  isplitl [HO Hcr Htk]
  · isplitl [HO]; · iexact HO
    isplitl [Hcr]; · iexact Hcr
    iexact Htk
  isplitl [Hbar]; · iexact Hbar
  isplitl [Hpl]; · iexact Hpl
  isplitl [Hfi]; · iexact Hfi
  isplitl [Hrd]; · iexact Hrd
  isplitl [B8]; · iexact B8
  isplitl [B0 B1 A0 A1 W0 W1]
  · isplitl [B0 A0 W0]
    · isplitl [B0]; · iexact B0
      isplitl [A0]; · iexact A0
      iexact W0
    · isplitl [B1]; · iexact B1
      isplitl [A1]; · iexact A1
      iexact W1
  isplitl [So]; · iexact So
  isplitl [Ha]; · iexact Ha
  iapply h2 $$ Hv2

theorem done_of (c : Dev nD) :
    doneSt (oof m) (wof m) c ⊢ iprop(owesE c 36 ∗ Yk (F := F) c ∗ (sems0 (F := F) c ∗ locals0 (F := F) c) ∗ scratches (F := F) c ∗ inPlace c (V₂ m c) ∗ acts (oof m) c) := by
  have h1 : iprop((a1M.view.loc (c : Thread nD τ) ↦{half 0} wof m c) ∗ (a1M.view.loc (c : Thread nD τ) ↦{half 1} wof m c))
      ⊢ (((c : Thread nD τ).loc main_arg1) ↦{fullShare} wof m c : sProp 𝕄) := (arg1_halves c (wof m c)).2
  have h2 : outSt (oof m) (wof m) c 8 8 ⊢ (((c : Thread nD τ).loc main_v2) ↦{fullShare} outF (oof m) (wof m) c : sProp 𝕄) := outSt_done (oof m) (wof m) c
  have h3 : iprop((anyv (F := F) (woB 0) c ∗ anyv (F := F) (woB 1) c) ∗ bufs8 (F := F) c) ⊢ scratches (F := F) c := scratch_join c
  unfold doneSt locals0 inPlace woIdle Yk
  rw [V₂_arg1, V₂_v2]
  iintro ⟨HO, Hs, Hb, B8, ⟨⟨B0, A0, W0⟩, B1, A1, W1⟩, So, Ha, Hout⟩
  isplitl [HO]; · iexact HO
  isplitl [Hb]; · iexact Hb
  isplitl [Hs W0 W1 So]
  · isplitl [Hs]; · iexact Hs
    isplitl [W0 W1]
    · isplitl [W0]; · iexact W0
      iexact W1
    iexact So
  isplitl [B0 B1 B8]
  · iapply h3
    isplitl [B0 B1]
    · isplitl [B0]; · iexact B0
      iexact B1
    iexact B8
  isplitl [A0 A1 Hout]
  · isplitl [A0 A1]
    · iapply h1
      isplitl [A0]; · iexact A0
      iexact A1
    iapply h2 $$ Hout
  iexact Ha

omit [FloatOps F] in
theorem owes_end (c : Dev nD) : owesE c 36 ⊢ (iprop(∃ W, owes (c : Thread nD τ) (0 : CellTallies nD τ sig ℕ) W) : sProp 𝕄) := by
  unfold owesE
  rw [owed_end]

omit [FloatOps F] in
theorem owns_staged (c : Dev nD) (X : Vec F S2048x4096 .bf16) :
    (owns (c : Thread nD τ) a0M fullShare X : sProp 𝕄) ⊣⊢ (a0M.view.loc (c : Thread nD τ) ↦{fullShare} X) := by
  unfold owns
  simp only [Memref.view_whole, View.read_whole, View.set_whole]
  constructor
  · iintro ⟨%f, %h, H⟩
    subst h
    iexact H
  · iintro H
    iexists X
    isplitr; · ipureintro; rfl
    iexact H

theorem body (c : Dev nD) : BodyObligation (dat (F := F) m c) defs₀ 𝒱₀ 0 Set.univ := fun t => by
  obtain rfl := fin_N0 t
  rw [bigSep_W0, bigSep_W0, inv_first, inv_succ]
  have e1 := owesAt_elim m c t0_0.castSucc (owed c 1) (owed_first m c)
  have e2 := owesAt_intro m c t0_0.succ 0 (owed_succ0 m c)
  have b1 (d) : owns (c : Thread nD τ) ((cfg0.win 0).stage (cfg0.slots t0_0 0)) fullShare ((dat m c).before 0 t0_0 d) ⊢ acts (oof m) c := by
    rw [before0]
    exact (owns_staged c (oof m c)).1
  have b2 : acts (oof m) c ⊢ owns (c : Thread nD τ) ((cfg0.win 0).stage (cfg0.slots t0_0 0)) fullShare ((dat m c).after 0 t0_0) := (owns_staged c (oof m c)).2
  show _ ⊢ wpc c (cc0_body a0M (hstage0_0 0) a1M (Memref.isWhole_whole _) a2M (Memref.isWhole_whole _) woM (Memref.isWhole_whole _) xsM (Memref.isWhole_whole _)
    xrM (Memref.isWhole_whole _) ysM (Memref.isWhole_whole _) yrM (Memref.isWhole_whole _) smM (Memref.isWhole_whole _) yoM (Memref.isWhole_whole _)
    cc0_scratch7 cc0_scratch8 cc0_scratch9 cc0_scratch10 cc0_scratch11 cc0_scratch12 cc0_scratch13 cc0_scratch14) _
  unfold before behind Xk
  iintro ⟨⟨⟨%κ, %ιs, #HI, Hct, Hbar, Hpl, Hfi, Hrd, Hlo⟩, Hsc, Hin, Hp⟩, HO, ⟨%d, Hst⟩⟩
  ihave HO := e1 $$ HO
  ihave Hst := (b1 d) $$ Hst
  iapply (body_run (oof m) (wof m) κ ιs _ _ _ _ _ _ _ _ _ _ c) $$ HI [HO Hct Hbar Hpl Hfi Hrd Hlo Hsc Hin Hst]
  · iapply (start_of m κ ιs c)
    isplitl [HO]; · unfold owesE; iexact HO
    isplitl [Hct]; · iexact Hct
    isplitl [Hbar]; · iexact Hbar
    isplitl [Hpl]; · iexact Hpl
    isplitl [Hfi]; · iexact Hfi
    isplitl [Hrd]; · iexact Hrd
    isplitl [Hlo]; · iexact Hlo
    isplitl [Hsc]; · iexact Hsc
    isplitl [Hin]; · iexact Hin
    iexact Hst
  iintro Hd
  ihave Hd := (done_of m c) $$ Hd
  icases Hd with ⟨HO, HY, Hse, Hsc, Hin, Ha⟩
  isplitl [HY Hse Hsc Hin Hp]
  · isplitl [HY]; · iexact HY
    isplitl [Hse]; · iexact Hse
    isplitl [Hsc]; · iexact Hsc
    isplitl [Hin]; · iexact Hin
    iexact Hp
  isplitl [HO]
  · iapply e2
    iapply (owes_end (F := F) c) $$ HO
  iapply b2 $$ Ha

/-! ## The region -/

theorem hin (c : Dev nD) : iprop(Pipeline.scopedRest (Pipeline.pin (pcfgs (F := F)) adm 0).spec c ∗ (∃ r, prngReg c r) ∗ StableHlo.held (c.tc : Thread nD τ) hands (V₁ m c) ∗ Xk m c)
    ⊢ (pdats m 0 c).Φ 0 := by
  have e : (Pipeline.scopedRest (Ix := ℕ) (Name := ℕ) (U := UU) (Lvl := ℕ) (Val := Elt F) (Pipeline.pin (pcfgs (F := F)) adm 0).spec c : sProp 𝕄) = scratches (F := F) c := scopedRest0_eq c
  rw [show (pdats m 0 c).Φ 0 = before m c from inv_first m c, e, hands_eq]
  unfold before inPlace
  iintro ⟨Hs, Hp, Hh, HX⟩
  isplitl [HX]; · iexact HX
  isplitl [Hs]; · iexact Hs
  isplitl [Hh]; · iexact Hh
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) hands (V₂ m c)
      ∗ Pipeline.ownSems0 osemAll c ∗ Yk (F := F) c) := by
  have e : (Pipeline.scopedRest (Ix := ℕ) (Name := ℕ) (U := UU) (Lvl := ℕ) (Val := Elt F) (Pipeline.pin (pcfgs (F := F)) adm 0).spec c : sProp 𝕄) = scratches (F := F) c := scopedRest0_eq c
  rw [inv_last, e, hands_eq, ownSems_eq]
  unfold behind inPlace sems0 locals0
  iintro ⟨HY, ⟨⟨⟨S0, S1, S2, S3⟩, ⟨S4, S5⟩, S6, S7⟩, ⟨S8, S9⟩, S10⟩, Hs, Hh, Hp⟩
  isplitl [Hs]; · iexact Hs
  isplitl [Hp]; · iexact Hp
  isplitl [Hh]; · iexact Hh
  isplitr [HY]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    iexact S10
  iexact HY

omit [FloatOps F] in
theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- What a device owes lies above what the pipeline waits for. -/
theorem above (c : Dev nD) (t : Fin ((Pipeline.pin (pcfgs (F := F)) adm 0).N + 1)) (g : GSem nD τ sig) (i : ℕ) (h : 0 < (pdats (F := F) m 0 c).owed t g i) :
    i ∈ L g ∧ (0 : ℕ) < lv g i := by
  rw [show (pdats (F := F) m 0 c).owed t = if t.val = 0 then owed c 1 else 0 from rfl] at h
  split at h
  · obtain ⟨h1, h2, h3⟩ := owed_pos h
    refine ⟨?_, h2⟩
    unfold L
    rw [if_pos h1]
    exact Finset.mem_range.mpr h3
  · exact absurd h (Nat.lt_irrefl 0)

theorem arr_first (c : Dev nD) (w : Fin cfg0.W) : V m c (Pipeline.arrRef spec0 w) = V₁ m c (Proc.devRef .tc (Pipeline.arrRef spec0 w)) := rfl

set_option backward.isDefEq.respectTransparency.types false in
/-- The call of the kernel as a region of the program. -/
def call : Pipeline.RegionSeg (pcfgs (F := F)) adm (pdats m) 0 defs₀ 𝒱₀ L lv 0 :=
  Pipeline.RegionSeg.ofTalk (pcfgs (F := F)) adm (pdats m) 0 defs₀ 𝒱₀ L lv 0 osemAll (by decide : Pipeline.OwnSemFacts spec0 osemAll)
    hands rests (by decide) kit rfl (fun c => (body m c).loose)
    (fun _ => 0) (fun c => owed c 1) (fun c => (owed_zero m c).trans (zero_add _).symm) (owed_last m) (fun _ => rfl)
    (fun c w => by unfold Dat.share; split <;> rfl)
    (V₁ m) (V₂ m) (fun c b hb => by
      rw [show rests \ hands = {Proc.devRef .tc main_arg0} from by decide, Finset.mem_singleton] at hb
      subst hb
      exact V₂_arg0 m c)
    (Tk m) (Yk (F := F)) (Xk m) (Yk (F := F)) (hopen m) (hin m) (hout m)
    (fun c => by iintro H; imodintro; iexact H)
    (fun _ => 0)
    ⟨fun c w s => by unfold L; rw [if_pos rfl]; exact Finset.mem_range.mpr (by omega), fun _ _ _ => Nat.le_refl 0, fun c t g i h => above m c t g i h⟩
    (fun _ => iprop(emp))
    (fun c w => by obtain rfl : w = 0 := Subsingleton.elim w 0; exact ((pdats m 0 c).arrAt_in 0 rfl 0).trans (arr_first m c 0))
    (fun c w => by obtain rfl : w = 0 := Subsingleton.elim w 0; exact ((pdats m 0 c).arrAt_in 0 rfl _).trans (V₂_v1 m c).symm)

/-- What rides beside the buffers up to the call. -/
def rides (c : Dev nD) : sProp 𝕄 := iprop((Tk m c ∗ ∃ r, prngReg c r) ∗ ∃ W, owes (c : Thread nD τ) (owed c 1) W)

theorem call_pre (c : Dev nD) : iprop(StableHlo.held (c : Thread nD τ) bufs (V₁ m c) ∗ rides m c) ⊢ (call m).pre c := by
  show _ ⊢ iprop(StableHlo.held (c.tc : Thread nD τ) (Pipeline.arrRefs (τ := τ) spec0) (V₁ m c) ∗ (∃ r, prngReg c r)
    ∗ (StableHlo.held (c.tc : Thread nD τ) rests (V₁ m c) ∗ emp) ∗ Tk m c ∗ ∃ Wd, owes (c : Thread nD τ) (0 + owed c 1) Wd)
  rw [bufs_split, zero_add]
  unfold rides
  iintro ⟨⟨Ha, Hh⟩, ⟨HT, Hp⟩, HO⟩
  isplitl [Ha]; · iexact Ha
  isplitl [Hp]; · iexact Hp
  isplitl [Hh]
  · isplitl [Hh]; · iexact Hh
    iempintro
  isplitl [HT]; · iexact HT
  iexact HO

theorem call_post (c : Dev nD) : (call m).post c
    ⊢ iprop((StableHlo.held (c : Thread nD τ) bufs (V₂ m c) ∗ semVal (barC c) 0) ∗ ∃ W, owes (c : Thread nD τ) (0 : CellTallies nD τ sig ℕ) W) := by
  show iprop(StableHlo.held (c.tc : Thread nD τ) (Pipeline.arrRefs (τ := τ) spec0) (V₂ m c) ∗ (∃ r, prngReg c r)
    ∗ (StableHlo.held (c.tc : Thread nD τ) rests (V₂ m c) ∗ emp) ∗ Yk (F := F) c ∗ ∃ Wd, owes (c : Thread nD τ) (0 : CellTallies nD τ sig ℕ) Wd) ⊢ _
  rw [bufs_split]
  unfold Yk
  iintro ⟨Ha, -, ⟨Hh, -⟩, Hb, HO⟩
  isplitr [HO]
  · isplitr [Hb]
    · isplitl [Ha]; · iexact Ha
      iexact Hh
    iexact Hb
  iexact HO

end Cert.Proof
-- ==== Proof.Launch.lean ====
/-
  The launch: what every device is dealt before the program starts, and the run of the whole machine.
-/
module

public import proofs.«01_k».proof.Proof.Region

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg BodyObligation)

variable {F : FTy → Type} [FloatOps F]

local notation "𝕄" => MT nD τ sig ℕ (Elt F) ℕ UU ℕ

variable (m : (ℓ : Loc nD τ sig) → Buf (Elt F) ℓ) (ρ : Dev nD → PrngReg)

/-! ## The program as a list of segments -/

theorem ops_sub : ∀ op ∈ (hostOps0 : List (HloOp τ sig (Elt F))), op.bufs ⊆ bufs := fun op h => by
  simp only [hostOps0, List.mem_singleton] at h
  subst h
  show ({Proc.devRef .tc main_arg0, Proc.devRef .tc main_v1} : Finset (DevRef τ sig)) ⊆ bufs
  decide
theorem ops_fresh : ∀ op ∈ (hostOps0 : List (HloOp τ sig (Elt F))), op.fresh = ∅ := List.forall_iff_forall_mem.mp hostOps0_fresh

/-- The reshape before the call. -/
def hostSeg : Pipeline.HostSeg (Name := ℕ) (U := UU) (pcfgs (F := F)) defs₀ 𝒱₀ L lv :=
  Pipeline.HostSeg.ofOps _ _ _ _ _ bufs hostOps0 ops_sub ops_fresh (V₀ m) (rides m)

def segs : List (Pipeline.Seg (pcfgs (F := F)) adm (pdats m) 0 defs₀ 𝒱₀ L lv) := [.host (hostSeg m), .region (call m)]

theorem main_eq (c : Dev nD) : main (F := F) c = Pipeline.Seg.run (segs m) :=
  main_segs adm (pdats m) 0 𝒱₀ L lv (hostSeg m) (call m) rfl c

/-! ## The launch element -/

/-- The rounds of the kernel's semaphores, the landing slots, no counter. -/
abbrev mine : UB × (US × Counters) := (launchOf cellsLive cellsDormant allToks, (initSlots keys 4, (1 : Counters)))

def u₀ : UU :=
  (initOf (Pipeline.cells (Pipeline.pin (pcfgs (F := F)) adm) cellOf_inj) (Pipeline.launchToks (Pipeline.pin (pcfgs (F := F)) adm) cellOf_inj), mine)

omit [FloatOps F] in
theorem mine_split : (BI.own ((embR : Emb (UB × (US × Counters)) 𝕄) mine) : sProp 𝕄)
    ⊢ iprop(BI.own ((ER : Emb UB 𝕄) (launchOf cellsLive cellsDormant allToks)) ∗ BI.own ((ES : Emb US 𝕄) (initSlots keys 4))) := by
  have h1 : (BI.own ((embR : Emb (UB × (US × Counters)) 𝕄) mine) : sProp 𝕄)
      ⊢ iprop(BI.own ((ER : Emb UB 𝕄) (launchOf cellsLive cellsDormant allToks)) ∗ BI.own ((ET : Emb (US × Counters) 𝕄) (initSlots keys 4, (1 : Counters)))) :=
    own_pair_emb _ _ _
  have h2 : (BI.own ((ET : Emb (US × Counters) 𝕄) (initSlots keys 4, (1 : Counters))) : sProp 𝕄)
      ⊢ iprop(BI.own ((ES : Emb US 𝕄) (initSlots keys 4)) ∗ BI.own (((Emb.inr : Emb Counters (US × Counters)).trans (ET : Emb (US × Counters) 𝕄)) (1 : Counters))) :=
    own_pair_emb _ _ _
  iintro H
  ihave H := h1 $$ H
  icases H with ⟨H1, H2⟩
  ihave H2 := h2 $$ H2
  icases H2 with ⟨H2, -⟩
  isplitl [H1]; · iexact H1
  iexact H2

/-- A resource of the whole machine, kept by one device. -/
def keptBy (d : Dev nD) (X : sProp 𝕄) (c : Dev nD) : sProp 𝕄 := if c = d then X else iprop(emp)

omit [FloatOps F] in
theorem keptBy_all (d : Dev nD) (X : sProp 𝕄) : BI.bigSep Finset.univ (keptBy d X) = X := by
  rw [BI.bigSep_univ_at _ d, BI.bigSep_congr (s := Finset.univ.erase d) (Ψ := fun _ => (BI.emp : sProp 𝕄))
      fun c hc => by unfold keptBy; rw [if_neg (Finset.ne_of_mem_erase hc)]; rfl, BI.bigSep_emp_const]
  unfold keptBy; rw [if_pos rfl]
  exact BI.equiv_iff.mp sep_emp

def G : Dev nD → sProp 𝕄 := keptBy 0 (BI.own ((embR : Emb (UB × (US × Counters)) 𝕄) mine))

/-! ## The deal -/

/-- What every device knows. -/
def records (κ : GSem nD τ sig → ℕ) (ιs : Dev nD × Fin 2 → ℕ) : sProp 𝕄 :=
  iprop((BI.bigSep (cellsLive ∪ cellsDormant) (fun g => cellInv ER (kRd (oof m) (wof m)) (κ g) g)
      ∗ BI.bigSep Finset.univ (fun k : Dev nD × Fin 2 => slotInv ES (ιs k) k (anyv (F := F) (yrB k.2) k.1)))
    ∗ BI.bigSep Finset.univ fun c : Dev nD => reached ER (barC c) 0)

instance records_persistent (κ : GSem nD τ sig → ℕ) (ιs : Dev nD × Fin 2 → ℕ) : BI.Persistent (records m κ ιs) := by unfold records; infer_instance

/-- What one device gets of the protocol. -/
def linear (c : Dev nD) : sProp 𝕄 :=
  iprop(atPos ER (barC c) 0 ∅ 0 ∗ (dutyTok ER (barC (xp c)) 0 0 ∗ dutyTok ER (barC (yp c)) 0 1)
    ∗ ((BI.bigSep (Finset.Ico 0 4) fun r => iprop(six (F := F) c (2 * r) r 0 ∗ six c (2 * r + 1) r 1))
      ∗ BI.bigSep (Finset.Ico 0 4) fun r => iprop(writeTok ES (yp c, (0 : Fin 2)) (r + 1) ∗ writeTok ES (yp c, (1 : Fin 2)) (r + 1)))
    ∗ BI.bigSep Finset.univ (fun k : Fin 8 => (openTok ER ((c : Thread nD τ), osem k) : sProp 𝕄))
    ∗ (readerAt ES (c, (0 : Fin 2)) 0 ∗ readerAt ES (c, (1 : Fin 2)) 0))

/-- The rest of what it starts with. -/
def bundle (c : Dev nD) : sProp 𝕄 :=
  iprop(StableHlo.held (c : Thread nD τ) bufs (V₀ m c) ∗ (cred (tallyAt (barC c) 1 2) ∗ creds (F := F) c 1)
    ∗ owes (c : Thread nD τ) (owed c 1) ∅ ∗ ∃ r, prngReg c r)

abbrev T₀ (c : Dev nD) : sProp 𝕄 := iprop(StableHlo.held (c : Thread nD τ) bufs (V₀ m c) ∗ rides m c)
abbrev Tₙ (c : Dev nD) : sProp 𝕄 := iprop(StableHlo.held (c : Thread nD τ) bufs (V₂ m c) ∗ semVal (barC c) 0)

theorem T₀_intro (κ : GSem nD τ sig → ℕ) (ιs : Dev nD × Fin 2 → ℕ) (c : Dev nD) : iprop(records m κ ιs ∗ (linear (F := F) c ∗ bundle m c)) ⊢ T₀ m c := by
  have hx : (BI.bigSep Finset.univ fun c : Dev nD => (reached ER (barC c) 0 : sProp 𝕄)) ⊢ reached ER (barC (xp c)) 0 := BI.bigSep_elim (Finset.mem_univ (xp c))
  have hy : (BI.bigSep Finset.univ fun c : Dev nD => (reached ER (barC c) 0 : sProp 𝕄)) ⊢ reached ER (barC (yp c)) 0 := BI.bigSep_elim (Finset.mem_univ (yp c))
  have ht := tickets_intro (F := F) c
  unfold records linear bundle T₀ rides Tk barSt
  iintro ⟨⟨#HI, #HR⟩, ⟨Hat, ⟨Dx, Dy⟩, Htk, Hop, Hrd⟩, Hh, ⟨Hcb, Hcr⟩, HO, Hp⟩
  isplitl [Hh]; · iexact Hh
  isplitr [HO]
  · isplitr [Hp]
    · iexists κ; iexists ιs
      isplitr; · iexact HI
      isplitl [Hcr Htk]
      · isplitl [Hcr]; · iexact Hcr
        iapply ht $$ Htk
      isplitl [Hat Dx Dy Hcb]
      · isplitl [Hcb]; · iexact Hcb
        isplitl [Hat]; · iexact Hat
        isplitl [Dx]
        · isplitl [Dx]; · iexact Dx
          iapply hx; iexact HR
        · isplitl [Dy]; · iexact Dy
          iapply hy; iexact HR
      isplitl [Hop]; · iexact Hop
      iexact Hrd
    iexact Hp
  iexists ∅; iexact HO

omit [FloatOps F] in
theorem unscopedSems_eq (c : Dev nD) : (unscopedSems0 c : sProp 𝕄) = semVal (barC c) 0 := by
  unfold unscopedSems0
  rw [show (Finset.univ.filter fun sm : SemLoc sig => ¬ sm.isScoped .tc) = {SemLoc.reg barS} from by decide, BI.bigSep_singleton]

theorem core_init (c : Dev nD) : iprop(unscopedBufs c (fun b => m ((c : Thread nD τ).loc b)) ∗ unscopedSems0 c
        ∗ owes (c : Thread nD τ) (owed c 1) ∅ ∗ Pipeline.launchCred (fun c => owed c 1) c ∗ prngReg c (ρ c) ∗ G (F := F) c)
      ⊢ (iprop(bundle m c ∗ (semVal (barC c) 0 ∗ G (F := F) c)) : sProp 𝕄) := by
  rw [show unscopedBufs c (fun b => m ((c : Thread nD τ).loc b)) = StableHlo.held (c : Thread nD τ) bufs (V₀ m c) from unscoped_held c (V₀ m c), unscopedSems_eq]
  unfold bundle
  iintro ⟨Hh, Hus, HO, Hcr, Hp, HG⟩
  ihave Hc := (launch_creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem live_inj : Function.Injective fun c : Dev nD => barC c := fun _ _ h => congrArg (fun g : GSem nD τ sig => g.1.1) h
theorem osem_inj : Function.Injective osem := by decide
theorem dormant_inj : Function.Injective fun ck : Dev nD × Fin 8 => (((ck.1 : Thread nD τ), osem ck.2) : GSem nD τ sig) := fun _ _ h =>
  Prod.ext (congrArg (fun g : GSem nD τ sig => g.1.1) h) (osem_inj (congrArg Prod.snd h))
theorem osem_ne_bar : ∀ k : Fin 8, osem k ≠ .reg barS := by decide

theorem cells_disjoint : Disjoint cellsLive cellsDormant := by
  rw [Finset.disjoint_left]
  rintro g h₁ h₂
  obtain ⟨c, -, rfl⟩ := Finset.mem_image.mp h₁
  obtain ⟨ck, -, h⟩ := Finset.mem_image.mp h₂
  exact osem_ne_bar ck.2 (congrArg Prod.snd h)

omit [FloatOps F] in
theorem live_eq (Φ : GSem nD τ sig → sProp 𝕄) : BI.bigSep cellsLive Φ = BI.bigSep Finset.univ fun c : Dev nD => Φ (barC c) :=
  BI.bigSep_image_of_injOn live_inj.injOn Φ
omit [FloatOps F] in
theorem dormant_eq (Φ : GSem nD τ sig → sProp 𝕄) : BI.bigSep cellsDormant Φ
    = BI.bigSep Finset.univ fun c : Dev nD => BI.bigSep Finset.univ fun k : Fin 8 => Φ ((c : Thread nD τ), osem k) := by
  unfold cellsDormant
  rw [BI.bigSep_image_of_injOn dormant_inj.injOn, BI.bigSep_univ_prod]

omit [FloatOps F] in
theorem toks_deal : BI.bigSep allToks (fun x => (dutyTok ER x.1 x.2.1 x.2.2 : sProp 𝕄))
    ⊢ iprop((BI.bigSep Finset.univ fun c : Dev nD => BI.bigSep (Finset.Ico 0 4) fun r => iprop(six (F := F) c (2 * r) r 0 ∗ six c (2 * r + 1) r 1))
      ∗ BI.bigSep Finset.univ fun c : Dev nD => iprop(dutyTok ER (barC (xp c)) 0 0 ∗ dutyTok ER (barC (yp c)) 0 1)) := by
  unfold allToks
  rw [BI.bigSep_union toks_disjoint, chunk_deal]
  exact sep_mono_right bar_deal

theorem init :
    iprop((BI.bigSep Finset.univ fun c : Dev nD => iprop(unscopedBufs c (fun b => m ((c : Thread nD τ).loc b)) ∗ unscopedSems0 c
          ∗ owes (c : Thread nD τ) (owed c 1) ∅ ∗ Pipeline.launchCred (fun c => owed c 1) c ∗ prngReg c (ρ c) ∗ G (F := F) c)) ∗ levAts L lv)
      ⊢ (|={Set.univ}=> BI.bigSep Finset.univ (T₀ m) : sProp 𝕄) := by
  have hG : BI.bigSep Finset.univ (G (F := F)) ⊢ iprop(BI.own ((ER : Emb UB 𝕄) (launchOf cellsLive cellsDormant allToks)) ∗ BI.own ((ES : Emb US 𝕄) (initSlots keys 4))) :=
    BIBase.Entails.trans (Entails.of_eq (keptBy_all (F := F) 0 _)) mine_split
  iintro ⟨H, -⟩
  ihave H := (show (BI.bigSep Finset.univ fun c : Dev nD => iprop(unscopedBufs c (fun b => m ((c : Thread nD τ).loc b)) ∗ unscopedSems0 c
          ∗ owes (c : Thread nD τ) (owed c 1) ∅ ∗ Pipeline.launchCred (fun c => owed c 1) c ∗ prngReg c (ρ c) ∗ G (F := F) c))
      ⊢ (BI.bigSep Finset.univ fun c : Dev nD => iprop(bundle m c ∗ (semVal (barC c) 0 ∗ G (F := F) c)) : sProp 𝕄) from BI.bigSep_mono fun c _ => core_init m ρ c) $$ H
  ihave H := (sep_part (F := F) _ _) $$ H
  icases H with ⟨HB, H⟩
  ihave H := (sep_part (F := F) _ _) $$ H
  icases H with ⟨Hv, HG⟩
  ihave HG := hG $$ HG
  icases HG with ⟨HR, HS⟩
  imod (Rounds.fund_launch ER (kRd (oof m) (wof m)) cells_disjoint (fun g _ h => h) allToks) $$ [Hv HR] with ⟨%κ, -, #Hinv, #Hr, Hat, Hopen, Htok⟩
  · isplitl [Hv]
    · iapply (Entails.of_eq (live_eq (F := F) fun g => semVal g 0).symm) $$ Hv
    · iexact HR
  imod (slots_init ES keys 4 (fun k => anyv (F := F) (yrB k.2) k.1)) $$ HS with ⟨%ιs, -, #Hsl, Hrd, Hwt⟩
  imodintro
  iapply (BI.bigSep_with_persistent (R := records m κ ιs) (Φ := fun c => iprop(linear (F := F) c ∗ bundle m c)) fun c _ => T₀_intro m κ ιs c)
  isplitr
  · unfold records
    isplitr
    · isplitr; · iexact Hinv
      iexact Hsl
    iapply (Entails.of_eq (live_eq (F := F) fun g => reached ER g 0))
    iexact Hr
  iapply (sep_join (F := F) _ _)
  isplitr [HB]
  · unfold linear
    ihave Htok := (toks_deal (F := F)) $$ Htok
    icases Htok with ⟨Hch, Hbar⟩
    iapply (sep_join (F := F) _ _)
    isplitl [Hat]; · iapply (Entails.of_eq (live_eq (F := F) fun g => atPos ER g 0 ∅ 0)) $$ Hat
    iapply (sep_join (F := F) _ _)
    isplitl [Hbar]; · iexact Hbar
    iapply (sep_join (F := F) _ _)
    isplitl [Hch Hwt]
    · iapply (sep_join (F := F) _ _)
      isplitl [Hch]; · iexact Hch
      iapply (Entails.of_eq (slots_deal (F := F))) $$ Hwt
    iapply (sep_join (F := F) _ _)
    isplitl [Hopen]; · iapply (Entails.of_eq (dormant_eq (F := F) fun g => openTok ER g)) $$ Hopen
    iapply (Entails.of_eq (readers_deal (F := F))) $$ Hrd
  iexact HB

/-! ## The run -/

theorem V₁_arg0 (c : Dev nD) : V₁ m c main_arg0 = m ((c : Thread nD τ).loc main_arg0) := V_main_arg0 m c
theorem V₁_arg1 (c : Dev nD) : V₁ m c main_arg1 = m ((c : Thread nD τ).loc main_arg1) := V_main_arg1 m c

theorem L_of_ne (g : GSem nD τ sig) (h : g.1.2 ≠ .tc) : L g = ∅ := if_neg h

theorem unscoped_bar : ∀ sm : SemLoc sig, sm.isScoped .tc = false → sm = .reg barS := by decide

set_option backward.isDefEq.respectTransparency.types false in
/-- Every fair execution ends; then the arguments are as they were, the result is what the kernel makes of them, and every
    semaphore of the machine is at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = outF (oof m) (wof m) c) ∧ r.2.sem = fun _ => 0) :=
  Pipeline.θ_run_regions_kit_sems (pcfgs (F := F)) adm (pdats m) 0 cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := fun c => owed c 1) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [keptBy_all]; iexact HX)
    (T₀ := T₀ m) (Tₙ := Tₙ m)
    (hch := ⟨fun c => .rfl, fun c => call_pre m c, fun c => call_post m c⟩)
    (hinit := init m ρ)
    (QY := fun c s => (s.mem ((c : Thread nD τ).loc main_arg0) = V₂ m c main_arg0 ∧ s.mem ((c : Thread nD τ).loc main_arg1) = V₂ m c main_arg1
        ∧ s.mem ((c : Thread nD τ).loc main_v2) = V₂ m c main_v2) ∧ s.sem (barC c) = 0)
    (hfin := fun c s' => by
      dsimp only [Tₙ]; rw [bufs_split, rests_eq]
      iintro ⟨⟨⟨-, H0, H1, H2⟩, Hb0⟩, HSI⟩
      icombine HSI H0 gives %h0
      icombine HSI H1 gives %h1
      icombine HSI H2 gives %h2
      icombine HSI Hb0 gives %hb
      imodintro
      isplitr
      · ipureintro
        exact ⟨⟨Buf.eq_of_forall_mem_univ h0, Buf.eq_of_forall_mem_univ h1, Buf.eq_of_forall_mem_univ h2⟩, by simpa using hb⟩
      iexact HSI)
    (hQ := fun s h hs => ⟨fun c => by
        obtain ⟨⟨h0, h1, h2⟩, -⟩ := h c
        rw [V₂_arg0, V₁_arg0] at h0
        rw [V₂_arg1, wof, V₁_arg1] at h1
        rw [V₂_v2] at h2
        exact ⟨h0, h1, h2⟩,
      sem_eq_zero hs fun c sm hsm => by
        obtain rfl := unscoped_bar sm hsm
        exact (h c).2⟩)

end Cert.Proof
-- ==== Proof.Value.lean ====
/-
  The value over the extended reals. A number format is the identity there, so a device's chunk is a plain sum of
  products over its own 4096 columns of the activations, plus the same sum of its neighbour along x; the two together
  are the sum over all 8192 columns.
-/
module

public import proofs.«01_k».proof.Proof.Launch
public import Idealize.ShloMosaic.Lib.MatmulPlain
public import Idealize.ShloMosaic.Lib.Pipeline.Value
public import Idealize.ShloMosaic.Lib.Layout

@[expose] public section

noncomputable section

namespace Cert.Proof

open Cert.KernelIdeal Cert.KernelIdeal.Gen

open Idealize.ShloMosaic
open Idealize.ShloMosaic.TcCoe
open Idealize.ShloMosaic.ValueIdx
open Idealize.SL.Sem
open scoped BigOperators

/-! ## What a device computes, entry by entry -/

theorem at2_eq (r : Fin 1024) (s : Fin 512) : at2 r s = ix2 r s := by
  funext a; match a with | ⟨0, _⟩ => rfl | ⟨1, _⟩ => rfl

/-- Where in a device's rows of the activations its own half of the rows starts, and where the other half starts. -/
theorem own_off (c : Dev nD) : k0_off4 c = ![1024 * (c.val / 2), 0] := by revert c; decide
theorem oth_off (c : Dev nD) : k0_off3 (xp c) = ![1024 * (c.val / 2), 0] := by revert c; decide

theorem row_lt (c : Dev nD) (r : Fin 1024) : 1024 * (c.val / 2) + r.val < 2048 := by
  have h : c.val < 4 := c.isLt
  omega
theorem half_lt (c : Dev nD) (k : Fin 4096) : 4096 * (c.val / 2) + k.val < 8192 := by
  have h : c.val < 4 := c.isLt
  omega

/-- Row r of device c's half of the rows. -/
def rowOf (c : Dev nD) (r : Fin 1024) : Fin 2048 := ⟨1024 * (c.val / 2) + r.val, row_lt c r⟩
/-- Column s of chunk i of device c's half of the columns. -/
def colOf (c : Dev nD) (i : ℕ) (s : Fin 512) : Fin 8192 := ⟨4096 * (c.val % 2) + 512 * (i % 8) + s.val, by omega⟩
/-- Entry k of device c's half of the contraction. -/
def midOf (c : Dev nD) (k : Fin 4096) : Fin 8192 := ⟨4096 * (c.val / 2) + k.val, half_lt c k⟩

section Entries

variable (o : Dev nD → Vec Ideal S2048x4096 .bf16) (w : Dev nD → Vec Ideal S4096x8192 .f32)

theorem ownR_at (c : Dev nD) (r : Fin 1024) (k : Fin 4096) : ownR o c (ix2 r k) = o c (ix2 (rowOf c r) k) := by
  refine congrArg (o c) (funext fun a => Fin.ext ?_)
  have e := own_off c
  fin_cases a
  · show k0_off4 c 0 + 1 * r.val = 1024 * (c.val / 2) + r.val
    rw [e]; show 1024 * (c.val / 2) + 1 * r.val = _; omega
  · show k0_off4 c 1 + 1 * k.val = k.val
    rw [e]; show 0 + 1 * k.val = _; omega

theorem othR_at (c : Dev nD) (r : Fin 1024) (k : Fin 4096) : othR o (xp c) (ix2 r k) = o (xp c) (ix2 (rowOf c r) k) := by
  refine congrArg (o (xp c)) (funext fun a => Fin.ext ?_)
  have e := oth_off c
  fin_cases a
  · show k0_off3 (xp c) 0 + 1 * r.val = 1024 * (c.val / 2) + r.val
    rw [e]; show 1024 * (c.val / 2) + 1 * r.val = _; omega
  · show k0_off3 (xp c) 1 + 1 * k.val = k.val
    rw [e]; show 0 + 1 * k.val = _; omega

theorem woV_at (c : Dev nD) (i : ℕ) (k : Fin 4096) (s : Fin 512) : woV w c i (ix2 k s) = w c (ix2 k (colOf c i s)) := by
  refine congrArg (w c) (funext fun a => Fin.ext ?_)
  fin_cases a
  · show 0 + 1 * k.val = k.val; omega
  · show 4096 * (c.val % 2) + 512 * (i % 8) + 1 * s.val = 4096 * (c.val % 2) + 512 * (i % 8) + s.val; omega

/-- A chunk of the weights goes through a leading unit axis and back, and through a shorter format. -/
theorem wo_at (c : Dev nD) (i : ℕ) : k0_pay1 (wo3 w c i) = woV w c i := shapeCast_shapeCast (woV w c i) _ _

/-- A product of the kernel, at an entry. -/
theorem product_at (x : FVec Ideal S1024x4096 .bf16) (y : FVec Ideal S4096x512 .bf16) (r : Fin 1024) (s : Fin 512) :
    matmul dot_S1024x4096_S4096x512_S1024x512_1_0_0_1_n_n none x y (constant S1024x512 .f32 0x00000000#32) (ix2 r s)
      = ∑ k : Fin 4096, x (ix2 r k) * y (ix2 k s) := by
  refine (Ideal.matmul_plain_apply (M := 1024) (K := 4096) (N := 512) none x y _ r s).trans ?_
  show Ideal.ofBits .f32 0x00000000#32 + _ = _
  rw [Ideal.ofBits_zero_f32, zero_add]

theorem ownv_at (c : Dev nD) (i : ℕ) (r : Fin 1024) (s : Fin 512) :
    ownv o w c i (ix2 r s) = ∑ k : Fin 4096, o c (ix2 (rowOf c r) k) * w c (ix2 k (colOf c i s)) := by
  unfold ownv k0_pay3
  rw [wo_at, shapeCast_self, product_at]
  exact Finset.sum_congr rfl fun k _ => by rw [ownR_at, woV_at]

theorem xval_at (c : Dev nD) (i : ℕ) (r : Fin 1024) (s : Fin 512) :
    xval o w (xp c) i (ix2 r s) = ∑ k : Fin 4096, o (xp c) (ix2 (rowOf c r) k) * w (xp c) (ix2 k (colOf c i s)) := by
  have e : colOf (xp c) i s = colOf c i s := by
    refine Fin.ext ?_
    show 4096 * ((xp c).val % 2) + 512 * (i % 8) + s.val = 4096 * (c.val % 2) + 512 * (i % 8) + s.val
    have h : (xp c).val % 2 = c.val % 2 := by revert c; decide
    rw [h]
  unfold xval k0_pay2
  rw [wo_at, shapeCast_self, shapeCast_self]
  refine (product_at _ _ r s).trans (Finset.sum_congr rfl fun k _ => ?_)
  rw [othR_at, woV_at, e]

/-- The sum a device writes out. -/
theorem sumv_at (c : Dev nD) (i : ℕ) (r : Fin 1024) (s : Fin 512) :
    sumv o w c i (ix2 r s) = (∑ k : Fin 4096, o c (ix2 (rowOf c r) k) * w c (ix2 k (colOf c i s)))
      + ∑ k : Fin 4096, o (xp c) (ix2 (rowOf c r) k) * w (xp c) (ix2 k (colOf c i s)) := by
  unfold sumv k0_pay6
  rw [shapeCast_self, ← ownv_at, ← xval_at]
  rfl

/-- A chunk goes through a leading unit axis and a shorter format on its way along y. -/
theorem there_and_back (x : Vec Ideal S1024x512 .f32) :
    k0_pay4 (F := Ideal) (shapeCast S1x1024x512 (truncf (F := Ideal) .bf16 x bitsLt_bf16_f32) shapeCasts_S1024x512_S1x1024x512) = x := by
  refine (shapeCast_self _ _).trans ?_
  exact shapeCast_shapeCast x _ _

/-- What it writes out for its neighbour along y is what that neighbour writes out for itself. -/
theorem yout_eq (c : Dev nD) (i : ℕ) : yout o w c i = sumv o w (yp c) i := by
  have e : sumv o w (yp c) i = k0_pay5 (ownv o w (yp c) i) (xval o w (xp (yp c)) i) := by
    unfold sumv k0_pay6
    exact shapeCast_self _ _
  rw [e]
  unfold yout yval3 k0_pay7
  exact there_and_back _

end Entries

/-! ## The two halves of the contraction -/

/-- A sum over 8192 entries is one over a device's half and one over its neighbour's. -/
theorem sum_halves (f : Fin 8192 → EReal) (c : Dev nD) :
    ∑ k : Fin 8192, f k = (∑ k : Fin 4096, f (midOf c k)) + ∑ k : Fin 4096, f (midOf (xp c) k) := by
  have e := Fin.sum_univ_add (a := 4096) (b := 4096) f
  have cases : c.val / 2 = 0 ∧ (xp c).val / 2 = 1 ∨ c.val / 2 = 1 ∧ (xp c).val / 2 = 0 := by revert c; decide
  have lo (d : Dev nD) (h : d.val / 2 = 0) (k : Fin 4096) : midOf d k = Fin.castAdd 4096 k :=
    Fin.ext (by show 4096 * (d.val / 2) + k.val = k.val; omega)
  have hi (d : Dev nD) (h : d.val / 2 = 1) (k : Fin 4096) : midOf d k = Fin.natAdd 4096 k :=
    Fin.ext (by show 4096 * (d.val / 2) + k.val = 4096 + k.val; omega)
  refine e.trans ?_
  rcases cases with ⟨h1, h2⟩ | ⟨h1, h2⟩
  · exact (congrArg₂ (· + ·) (Finset.sum_congr rfl fun k _ => by rw [lo c h1]) (Finset.sum_congr rfl fun k _ => by rw [hi _ h2]))
  · exact (add_comm _ _).trans (congrArg₂ (· + ·) (Finset.sum_congr rfl fun k _ => by rw [hi c h1]) (Finset.sum_congr rfl fun k _ => by rw [lo _ h2]))

theorem yp_col (c : Dev nD) : (yp c).val % 2 = 1 - c.val % 2 := by revert c; decide
theorem yp_row (c : Dev nD) : (yp c).val / 2 = c.val / 2 := by revert c; decide
theorem rowOf_yp (c : Dev nD) (r : Fin 1024) : rowOf (yp c) r = rowOf c r :=
  Fin.ext (by show 1024 * ((yp c).val / 2) + r.val = 1024 * (c.val / 2) + r.val; rw [yp_row])

section Whole

/-! The devices hold the halves of a and of b. -/

variable (o : Dev nD → Vec Ideal S2048x4096 .bf16) (w : Dev nD → Vec Ideal S4096x8192 .f32)
  (a : Fin 2048 → Fin 8192 → EReal) (b : Fin 8192 → Fin 8192 → EReal)
  (ho : ∀ c r k, o c (ix2 r k) = a r (midOf c k)) (hw : ∀ c k n, w c (ix2 k n) = b (midOf c k) n)

include ho hw

/-- The sum a device writes out at column n is an entry of their product. -/
theorem sumv_whole (c : Dev nD) (r : Fin 1024) (n : Fin 8192) (hy : n.val / 4096 = c.val % 2) :
    sumv o w c (n.val / 512 % 8) (at2 r ⟨n.val % 512, Nat.mod_lt _ (by decide)⟩) = ∑ k : Fin 8192, a (rowOf c r) k * b k n := by
  have e : colOf c (n.val / 512 % 8) ⟨n.val % 512, Nat.mod_lt _ (by decide)⟩ = n := by
    refine Fin.ext ?_
    show 4096 * (c.val % 2) + 512 * (n.val / 512 % 8 % 8) + n.val % 512 = n.val
    omega
  rw [at2_eq, sumv_at, sum_halves _ c, e]
  simp only [ho, hw]

/-- The result of device c is its half of the rows of their product. -/
theorem outF_at (c : Dev nD) (i : S1x1024x8192.Idx) : outF o w c i = ∑ k : Fin 8192, a (rowOf c (i 1)) k * b k (i 2) := by
  unfold outF
  split
  · rename_i h; exact sumv_whole o w a b ho hw c (i 1) (i 2) h
  · rename_i h
    have hn : (i 2).val < 8192 := (i 2).isLt
    have h1 := yp_col c
    refine (congrFun (yout_eq o w c _) _).trans ((sumv_whole o w a b ho hw (yp c) (i 1) (i 2) (by omega)).trans ?_)
    exact Finset.sum_congr rfl fun k _ => congrArg (fun R => a R k * b k (i 2)) (rowOf_yp c (i 1))

end Whole

end Cert.Proof

end
-- ==== Proof.Answer.lean ====
/-
  The kernel against the reference: each device's arguments are blocks of the reference's, so its result is a block of
  the reference's product.
-/
module

public import proofs.«01_k».proof.Defs
public import proofs.«01_k».proof.Proof.Value
public import proofs.«01_k».proof.Proof.Gen.ReferenceIdeal
public import proofs.«01_k».proof.Proof.Gen.ReferenceIdeal.Run

@[expose] public section

noncomputable section

namespace Cert.Proof

open Idealize.ShloMosaic
open Idealize.ShloMosaic.TcCoe
open Idealize.ShloMosaic.ValueIdx
open Idealize.SL.Sem
open scoped BigOperators

/-! ## The reference's arrays -/

/-- Activations of all 64 heads, and the weights. -/
abbrev Acts : Type := (⟨4, ![1, 2048, 64, 128]⟩ : Shape).Idx → EReal
abbrev Weights : Type := (⟨2, ![8192, 8192]⟩ : Shape).Idx → EReal

/-- The activations as a matrix: the heads of a row one after the other. -/
def mat (X : Acts) (r : Fin 2048) (k : Fin 8192) : EReal :=
  X (ix4 (0 : Fin 1) r (⟨k.val / 128, by omega⟩ : Fin 64) (⟨k.val % 128, by omega⟩ : Fin 128))

/-- The reference's result. -/
def product (X : Acts) (W : Weights) : FVec Ideal Cert.ReferenceIdeal.S1x2048x8192 .f32 :=
  Host.dotGeneral (F := Ideal) (φ₁ := .f32) (φ₂ := .f32) Cert.ReferenceIdeal.dot_S1x2048x8192_S8192x8192_S1x2048x8192_2_0_01_1_n_n none
    (extf (F := Ideal) (φ := .bf16) .f32 (shapeCast Cert.ReferenceIdeal.S1x2048x8192 X Cert.ReferenceIdeal.Gen.facts.shapeCasts_S1x2048x64x128_S1x2048x8192) Cert.ReferenceIdeal.Gen.facts.bitsLt_bf16_f32) W

theorem mat_at (X : Acts) (h) (r : Fin 2048) (k : Fin 8192) :
    shapeCast (⟨3, ![1, 2048, 8192]⟩ : Shape) X h (ix3 (0 : Fin 1) r k) = mat X r k := by
  refine shapeCast_apply X h _ _ ?_
  rw [Shape.rowMajor_val_three, Shape.rowMajor_val_four]
  show ((0 * 2048 + r.val) * 64 + k.val / 128) * 128 + k.val % 128 = (0 * 2048 + r.val) * 8192 + k.val
  omega

/-- An entry of the reference's result. -/
theorem product_at_entry (X : Acts) (W : Weights) (r : Fin 2048) (n : Fin 8192) :
    product X W (ix3 (0 : Fin 1) r n) = ∑ k : Fin 8192, mat X r k * W (ix2 k n) := by
  unfold product
  refine (Ideal.dotGeneral_apply _ _ _ _ _ _).trans ?_
  rw [← Equiv.sum_comp (contrEquiv1 Cert.ReferenceIdeal.dot_S1x2048x8192_S8192x8192_S1x2048x8192_2_0_01_1_n_n 8192 rfl rfl).symm]
  refine Finset.sum_congr rfl fun k _ => ?_
  have hk := contrEquiv1_symm_val Cert.ReferenceIdeal.dot_S1x2048x8192_S8192x8192_S1x2048x8192_2_0_01_1_n_n 8192 rfl rfl k
  have el : Cert.ReferenceIdeal.dot_S1x2048x8192_S8192x8192_S1x2048x8192_2_0_01_1_n_n.lhsIdx (ix3 (0 : Fin 1) r n) ((contrEquiv1 _ 8192 rfl rfl).symm k) = ix3 (0 : Fin 1) r k := by
    funext a; apply Fin.ext
    match a with
    | ⟨0, _⟩ => rfl
    | ⟨1, _⟩ => rfl
    | ⟨2, _⟩ => exact hk
  have er : Cert.ReferenceIdeal.dot_S1x2048x8192_S8192x8192_S1x2048x8192_2_0_01_1_n_n.rhsIdx (ix3 (0 : Fin 1) r n) ((contrEquiv1 _ 8192 rfl rfl).symm k) = ix2 k n := by
    funext a; apply Fin.ext
    match a with
    | ⟨0, _⟩ => exact hk
    | ⟨1, _⟩ => rfl
  rw [el, er]
  exact congrArg (· * W (ix2 k n)) (mat_at X _ r k)

/-! ## A device's arguments -/

section Args

open Cert.KernelIdeal Cert.KernelIdeal.Gen

variable (m : (ℓ : Loc nD τ sig) → Buf (Elt Ideal) ℓ)

/-- What the kernel reads of the activations is the device's argument with its heads one after the other. -/
theorem oof_eq (c : Dev nD) : oof m c = shapeCast S2048x4096 (m ((c : Thread nD τ).loc main_arg0)) shapeCasts_S1x2048x32x128_S2048x4096 := by
  have e : V₁ m c main_v1 = shapeCast S2048x4096 (m ((c : Thread nD τ).loc main_arg0)) shapeCasts_S1x2048x32x128_S2048x4096 := rfl
  rw [← e]
  refine funext fun i => congrArg (V₁ m c main_v1) (funext fun a => Fin.ext ?_)
  fin_cases a
  · show 0 * 2048 + 1 * (i 0).val = (i 0).val; omega
  · show 0 * 4096 + 1 * (i 1).val = (i 1).val; omega

theorem cut_x (c : Dev nD) : Layout.meshLin [2, 2] c.val [0] = c.val / 2 := by revert c; decide

theorem oof_at (X : Acts) (c : Dev nD)
    (h : m ((c : Thread nD τ).loc main_arg0) = Layout.blockN ⟨4, ![1, 2048, 32, 128]⟩ ⟨4, ![1, 2048, 64, 128]⟩ (Layout.meshBlock [2, 2] ![[], [], [0], []] c) X)
    (r : Fin 2048) (k : Fin 4096) : oof m c (ix2 r k) = mat X r (midOf c k) := by
  rw [oof_eq, h]
  refine (shapeCast_apply _ _ _ (ix4 (0 : Fin 1) r (⟨k.val / 128, by omega⟩ : Fin 32) (⟨k.val % 128, by omega⟩ : Fin 128)) ?_).trans ?_
  · rw [Shape.rowMajor_val_two, Shape.rowMajor_val_four]
    show ((0 * 2048 + r.val) * 32 + k.val / 128) * 128 + k.val % 128 = r.val * 4096 + k.val
    omega
  · refine congrArg X (funext fun a => Fin.ext ?_)
    have hc : c.val < 4 := c.isLt
    fin_cases a
    · show 0 * 1 + 0 = 0; rfl
    · show 0 * 2048 + r.val = r.val; omega
    · show Layout.meshLin [2, 2] c.val [0] * 32 + k.val / 128 = (4096 * (c.val / 2) + k.val) / 128
      rw [cut_x]; omega
    · show 0 * 128 + k.val % 128 = (4096 * (c.val / 2) + k.val) % 128
      omega

theorem wof_at (W : Weights) (c : Dev nD)
    (h : m ((c : Thread nD τ).loc main_arg1) = Layout.blockN ⟨2, ![4096, 8192]⟩ ⟨2, ![8192, 8192]⟩ (Layout.meshBlock [2, 2] ![[0], []] c) W)
    (k : Fin 4096) (n : Fin 8192) : wof m c (ix2 k n) = W (ix2 (midOf c k) n) := by
  unfold wof
  rw [V₁_arg1, h]
  refine congrArg W (funext fun a => Fin.ext ?_)
  fin_cases a
  · show Layout.meshLin [2, 2] c.val [0] * 4096 + k.val = 4096 * (c.val / 2) + k.val
    rw [cut_x]; omega
  · show 0 * 8192 + n.val = n.val; omega

/-- The result of device c is its block of the reference's. -/
theorem result_eq (X : Acts) (W : Weights)
    (h : ∀ c : Dev nD, m ((c : Thread nD τ).loc main_arg0) = Layout.blockN ⟨4, ![1, 2048, 32, 128]⟩ ⟨4, ![1, 2048, 64, 128]⟩ (Layout.meshBlock [2, 2] ![[], [], [0], []] c) X
      ∧ m ((c : Thread nD τ).loc main_arg1) = Layout.blockN ⟨2, ![4096, 8192]⟩ ⟨2, ![8192, 8192]⟩ (Layout.meshBlock [2, 2] ![[0], []] c) W)
    (c : Dev nD) : outF (oof m) (wof m) c = Layout.blockN ⟨3, ![1, 1024, 8192]⟩ ⟨3, ![1, 2048, 8192]⟩ (Layout.meshBlock [2, 2] ![[], [0], []] c) (product X W) := by
  funext i
  refine (outF_at (oof m) (wof m) (mat X) (fun k n => W (ix2 k n)) (fun c => oof_at m X c (h c).1) (fun c => wof_at m W c (h c).2) c i).trans ?_
  refine (product_at_entry X W (rowOf c (i 1)) (i 2)).symm.trans ?_
  refine congrArg (product X W) (funext fun a => Fin.ext ?_)
  fin_cases a
  · show 0 = 0 * 1 + (i 0).val
    have : (i 0).val < 1 := (i 0).isLt
    omega
  · show 1024 * (c.val / 2) + (i 1).val = Layout.meshLin [2, 2] c.val [0] * 1024 + (i 1).val
    rw [cut_x]; omega
  · show (i 2).val = 0 * 8192 + (i 2).val; omega

end Args

end Cert.Proof

end
-- ==== Proof.lean ====
/-
  The claims, put together: the run of the whole machine gives the frames and the value.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Answer

@[expose] public section

noncomputable section

namespace Cert.Proof

open Idealize.ShloMosaic Idealize.ShloMosaic.TcCoe

/-- The two programs have one text: their kernels' tables are the same, -/
theorem bodies_same : Cert.Kernel.defs₀ (F := Bits) = Cert.KernelIdeal.defs₀ (F := Bits) := by
  unfold Cert.Kernel.defs₀ Cert.KernelIdeal.defs₀
  refine congrArg Defs.onTc ?_
  funext l
  match l with
  | ⟨0, h⟩ => rfl
/-- and so are their programs'. -/
theorem defs_same : Cert.Kernel.defs (F := Bits) = Cert.KernelIdeal.defs (F := Bits) :=
  congrArg (Pipeline.defs (Cert.KernelIdeal.pcfgs (F := Bits))) bodies_same

/-- The kernel as it is run, over machine floats: the same text, hence the same run. -/
theorem frame_kernel : Cert.quiescent_Kernel := fun m ρ _ =>
  (congrArg (fun D => θ_run D (onTc (τ := Cert.KernelIdeal.τ) (Cert.KernelIdeal.main (F := Bits))) ⟨m, fun _ => 0, ρ⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) defs_same).mpr
    ((θ_run Cert.KernelIdeal.defs _ _).mono (fun _ h => ⟨fun c => ⟨(h.1 c).1, (h.1 c).2.1⟩, h.2⟩) (run_main (F := Bits) m ρ))

/-- The same over the extended reals. -/
theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- The reference, which has no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal := trivial

/-- Over the extended reals the result is the reference's, block by block. -/
theorem algebraic : Cert.algebraic_KernelIdeal_ReferenceIdeal := fun m g m' g' _ h =>
  ⟨product (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ r => fun c => ⟨(r.1 c).2.2.trans (result_eq m _ _ h c), (r.1 c).1, (r.1 c).2.1⟩)
      (run_main (F := Ideal) m g),
    (θ_run Cert.ReferenceIdeal.defs _ _).mono (fun _ r => r 0) (Cert.ReferenceIdeal.Value.run (F := Ideal) m' g')⟩

theorem claim : Cert.Claim :=
  ⟨Cert.Kernel.Gen.facts, Cert.KernelIdeal.Gen.facts, Cert.ReferenceIdeal.Gen.facts, frame_kernel, frame_ideal, frame_ref, preserves, algebraic⟩

end Cert.Proof

end
